-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_table [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_table [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_table [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_table [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_table : Cert.Pre_in_table.Facts),
    quiescent_Kernel (hKernel := hKernel)
    ∧ quiescent_KernelIdeal (hKernelIdeal := hKernelIdeal)
    ∧ quiescent_KernelIdeal_pre_in_table (hKernelIdeal := hKernelIdeal) (hPre_in_table := hPre_in_table)
    ∧ quiescent_ReferenceIdeal (hReferenceIdeal := hReferenceIdeal)
    ∧ quiescent_ReferenceIdeal_pre_in_table (hReferenceIdeal := hReferenceIdeal) (hPre_in_table := hPre_in_table)
    ∧ preserves_Kernel_KernelIdeal
    ∧ algebraic_KernelIdeal_ReferenceIdeal_pre_in_table (hKernelIdeal := hKernelIdeal) (hReferenceIdeal := hReferenceIdeal) (hPre_in_table := hPre_in_table)
-- ==== Pre_in_table.lean ====
abbrev S1024x588x16 : Shape := ⟨3, ![1024, 588, 16]⟩
abbrev S8x64 : Shape := ⟨2, ![8, 64]⟩
abbrev S16x64 : Shape := ⟨2, ![16, 64]⟩
abbrev S64 : Shape := ⟨1, ![64]⟩
abbrev S588 : Shape := ⟨1, ![588]⟩
abbrev S_ : Shape := ⟨0, ![]⟩

class Facts : Prop where
  bcast_S_S588 : S_.BroadcastsInDim S588 (![] : Fin 0 → Fin S588.rank)
  reducesTo_S588_S_d0 : S588.ReducesTo [0] S_
  h_S_ : 0 < S_.numel

variable [Facts]

def fn {F : FTy → Type} [FloatOps F] (main_arg0 : FVec F S1024x588x16 .f32) (main_arg1 : FVec F S8x64 .f32) (main_arg2 : FVec F S16x64 .f32) (main_arg3 : FVec F S64 .f32) (main_arg4 : IVec S588 32) : IVec S_ 1 :=
  let main_c : IVec S_ 32 := constantI S_ 32 0#32
  let main_v0 : IVec S588 32 := broadcastInDim S588 ![] bcast_S_S588 main_c
  let main_v1 : IVec S588 1 := cmpi .sge main_arg4 main_v0
  let main_c_0 : IVec S_ 32 := constantI S_ 32 8#32
  let main_v2 : IVec S588 32 := broadcastInDim S588 ![] bcast_S_S588 main_c_0
  let main_v3 : IVec S588 1 := cmpi .slt main_arg4 main_v2
  let main_v4 : IVec S588 1 := andi main_v1 main_v3
  let main_c_1 : IVec S_ 1 := constantI S_ 1 1#1
  let main_v5 : IVec S_ 1 := (fun x v => Host.reduce IntOp.andi x v reducesTo_S588_S_d0 h_S_) main_v4 main_c_1
  main_v5
-- ==== Kernel.lean ====
abbrev S1024x588x16 : Shape := ⟨3, ![1024, 588, 16]⟩
abbrev S8x64 : Shape := ⟨2, ![8, 64]⟩
abbrev S16x64 : Shape := ⟨2, ![16, 64]⟩
abbrev S64 : Shape := ⟨1, ![64]⟩
abbrev S588 : Shape := ⟨1, ![588]⟩
abbrev S4x4 : Shape := ⟨2, ![4, 4]⟩
abbrev S_ : Shape := ⟨0, ![]⟩
abbrev S4x1x4x1 : Shape := ⟨4, ![4, 1, 4, 1]⟩
abbrev S1x16x1x64 : Shape := ⟨4, ![1, 16, 1, 64]⟩
abbrev S4x16x4x64 : Shape := ⟨4, ![4, 16, 4, 64]⟩
abbrev S64x256 : Shape := ⟨2, ![64, 256]⟩
abbrev S1x64 : Shape := ⟨2, ![1, 64]⟩
abbrev S1x8x1x64 : Shape := ⟨4, ![1, 8, 1, 64]⟩
abbrev S4x8x4x64 : Shape := ⟨4, ![4, 8, 4, 64]⟩
abbrev S32x256 : Shape := ⟨2, ![32, 256]⟩
abbrev S147x4 : Shape := ⟨2, ![147, 4]⟩
abbrev S512x588x16 : Shape := ⟨3, ![512, 588, 16]⟩
abbrev S512x147x64 : Shape := ⟨3, ![512, 147, 64]⟩
abbrev S512x147x256 : Shape := ⟨3, ![512, 147, 256]⟩
abbrev S128x147x64 : Shape := ⟨3, ![128, 147, 64]⟩
abbrev S128x147x256 : Shape := ⟨3, ![128, 147, 256]⟩
abbrev S147x256 : Shape := ⟨2, ![147, 256]⟩
abbrev S147x8 : Shape := ⟨2, ![147, 8]⟩
abbrev S147x1 : Shape := ⟨2, ![147, 1]⟩
abbrev S147 : Shape := ⟨1, ![147]⟩
abbrev S147x32 : Shape := ⟨2, ![147, 32]⟩
abbrev S1x147x64 : Shape := ⟨3, ![1, 147, 64]⟩
abbrev S147x64 : Shape := ⟨2, ![147, 64]⟩
abbrev S1x147x256 : Shape := ⟨3, ![1, 147, 256]⟩
abbrev S512x588x64 : Shape := ⟨3, ![512, 588, 64]⟩
abbrev S1024x588x64 : Shape := ⟨3, ![1024, 588, 64]⟩

abbrev nBuf : Space → Nat
  | .hbm => 42
  | .vmem => 16
  | .smem => 0
  | _ => 0

abbrev bufTy : (tb : Table) → Fin (tcTables nBuf tb) → BufTy
  | .hbm, ⟨0, _⟩ => ⟨S1024x588x16, .f32⟩
  | .hbm, ⟨1, _⟩ => ⟨S8x64, .f32⟩
  | .hbm, ⟨2, _⟩ => ⟨S16x64, .f32⟩
  | .hbm, ⟨3, _⟩ => ⟨S64, .f32⟩
  | .hbm, ⟨4, _⟩ => ⟨S588, .i32⟩
  | .hbm, ⟨5, _⟩ => ⟨S4x4, .i32⟩
  | .hbm, ⟨6, _⟩ => ⟨S4x4, .i32⟩
  | .hbm, ⟨7, _⟩ => ⟨S_, .i32⟩
  | .hbm, ⟨8, _⟩ => ⟨S4x4, .i32⟩
  | .hbm, ⟨9, _⟩ => ⟨S4x4, .i32⟩
  | .hbm, ⟨10, _⟩ => ⟨S4x4, .i1⟩
  | .hbm, ⟨11, _⟩ => ⟨S4x4, .f32⟩
  | .hbm, ⟨12, _⟩ => ⟨S4x1x4x1, .f32⟩
  | .hbm, ⟨13, _⟩ => ⟨S1x16x1x64, .f32⟩
  | .hbm, ⟨14, _⟩ => ⟨S4x16x4x64, .f32⟩
  | .hbm, ⟨15, _⟩ => ⟨S4x16x4x64, .f32⟩
  | .hbm, ⟨16, _⟩ => ⟨S4x16x4x64, .f32⟩
  | .hbm, ⟨17, _⟩ => ⟨S64x256, .f32⟩
  | .hbm, ⟨18, _⟩ => ⟨S64x256, .bf16⟩
  | .hbm, ⟨19, _⟩ => ⟨S1x64, .f32⟩
  | .hbm, ⟨20, _⟩ => ⟨S8x64, .f32⟩
  | .hbm, ⟨21, _⟩ => ⟨S8x64, .f32⟩
  | .hbm, ⟨22, _⟩ => ⟨S4x1x4x1, .f32⟩
  | .hbm, ⟨23, _⟩ => ⟨S1x8x1x64, .f32⟩
  | .hbm, ⟨24, _⟩ => ⟨S4x8x4x64, .f32⟩
  | .hbm, ⟨25, _⟩ => ⟨S4x8x4x64, .f32⟩
  | .hbm, ⟨26, _⟩ => ⟨S4x8x4x64, .f32⟩
  | .hbm, ⟨27, _⟩ => ⟨S32x256, .f32⟩
  | .hbm, ⟨28, _⟩ => ⟨S147x4, .i32⟩
  | .hbm, ⟨29, _⟩ => ⟨S512x588x16, .f32⟩
  | .hbm, ⟨30, _⟩ => ⟨S512x147x64, .f32⟩
  | .hbm, ⟨31, _⟩ => ⟨S512x147x64, .bf16⟩
  | .hbm, ⟨32, _⟩ => ⟨S512x147x256, .bf16⟩
  | .hbm, ⟨33, _⟩ => ⟨S512x147x256, .f32⟩
  | .hbm, ⟨34, _⟩ => ⟨S512x588x64, .f32⟩
  | .hbm, ⟨35, _⟩ => ⟨S512x588x16, .f32⟩
  | .hbm, ⟨36, _⟩ => ⟨S512x147x64, .f32⟩
  | .hbm, ⟨37, _⟩ => ⟨S512x147x64, .bf16⟩
  | .hbm, ⟨38, _⟩ => ⟨S512x147x256, .bf16⟩
  | .hbm, ⟨39, _⟩ => ⟨S512x147x256, .f32⟩
  | .hbm, ⟨40, _⟩ => ⟨S512x588x64, .f32⟩
  | .hbm, ⟨41, _⟩ => ⟨S1024x588x64, .f32⟩
  | .local _ .vmem, ⟨0, _⟩ => ⟨S147x4, .i32⟩
  | .local _ .vmem, ⟨1, _⟩ => ⟨S32x256, .f32⟩
  | .local _ .vmem, ⟨2, _⟩ => ⟨S64x256, .bf16⟩
  | .local _ .vmem, ⟨3, _⟩ => ⟨S128x147x64, .bf16⟩
  | .local _ .vmem, ⟨4, _⟩ => ⟨S128x147x64, .bf16⟩
  | .local _ .vmem, ⟨5, _⟩ => ⟨S128x147x256, .bf16⟩
  | .local _ .vmem, ⟨6, _⟩ => ⟨S128x147x256, .bf16⟩
  | .local _ .vmem, ⟨7, _⟩ => ⟨S147x256, .f32⟩
  | .local _ .vmem, ⟨8, _⟩ => ⟨S147x4, .i32⟩
  | .local _ .vmem, ⟨9, _⟩ => ⟨S32x256, .f32⟩
  | .local _ .vmem, ⟨10, _⟩ => ⟨S64x256, .bf16⟩
  | .local _ .vmem, ⟨11, _⟩ => ⟨S128x147x64, .bf16⟩
  | .local _ .vmem, ⟨12, _⟩ => ⟨S128x147x64, .bf16⟩
  | .local _ .vmem, ⟨13, _⟩ => ⟨S128x147x256, .bf16⟩
  | .local _ .vmem, ⟨14, _⟩ => ⟨S128x147x256, .bf16⟩
  | .local _ .vmem, ⟨15, _⟩ => ⟨S147x256, .f32⟩
  | _, _ => ⟨S1024x588x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S147x4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x147x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x147x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S147x4 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x147x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x147x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S1024x588x16 : Shape := ⟨3, ![1024, 588, 16]⟩
abbrev S8x64 : Shape := ⟨2, ![8, 64]⟩
abbrev S16x64 : Shape := ⟨2, ![16, 64]⟩
abbrev S64 : Shape := ⟨1, ![64]⟩
abbrev S588 : Shape := ⟨1, ![588]⟩
abbrev S_ : Shape := ⟨0, ![]⟩
abbrev S588x1 : Shape := ⟨2, ![588, 1]⟩
abbrev S1 : Shape := ⟨1, ![1]⟩
abbrev S1x1 : Shape := ⟨2, ![1, 1]⟩
abbrev S588x64 : Shape := ⟨2, ![588, 64]⟩
abbrev S1024x588x64 : Shape := ⟨3, ![1024, 588, 64]⟩
abbrev S1x1x64 : Shape := ⟨3, ![1, 1, 64]⟩
abbrev S1x588x64 : Shape := ⟨3, ![1, 588, 64]⟩

abbrev nBuf : Space → Nat
  | .hbm => 35
  | .vmem => 0
  | .smem => 0
  | _ => 0

abbrev bufTy : (tb : Table) → Fin (tcTables nBuf tb) → BufTy
  | .hbm, ⟨0, _⟩ => ⟨S1024x588x16, .f32⟩
  | .hbm, ⟨1, _⟩ => ⟨S8x64, .f32⟩
  | .hbm, ⟨2, _⟩ => ⟨S16x64, .f32⟩
  | .hbm, ⟨3, _⟩ => ⟨S64, .f32⟩
  | .hbm, ⟨4, _⟩ => ⟨S588, .i32⟩
  | .hbm, ⟨5, _⟩ => ⟨S_, .i32⟩
  | .hbm, ⟨6, _⟩ => ⟨S588, .i32⟩
  | .hbm, ⟨7, _⟩ => ⟨S588, .i1⟩
  | .hbm, ⟨8, _⟩ => ⟨S_, .i32⟩
  | .hbm, ⟨9, _⟩ => ⟨S588, .i32⟩
  | .hbm, ⟨10, _⟩ => ⟨S588, .i32⟩
  | .hbm, ⟨11, _⟩ => ⟨S588, .i32⟩
  | .hbm, ⟨12, _⟩ => ⟨S588x1, .i32⟩
  | .hbm, ⟨13, _⟩ => ⟨S1, .i32⟩
  | .hbm, ⟨14, _⟩ => ⟨S_, .i32⟩
  | .hbm, ⟨15, _⟩ => ⟨S588x1, .i32⟩
  | .hbm, ⟨16, _⟩ => ⟨S588x1, .i1⟩
  | .hbm, ⟨17, _⟩ => ⟨S1x1, .i32⟩
  | .hbm, ⟨18, _⟩ => ⟨S588x1, .i32⟩
  | .hbm, ⟨19, _⟩ => ⟨S588x1, .i1⟩
  | .hbm, ⟨20, _⟩ => ⟨S588x1, .i1⟩
  | .hbm, ⟨21, _⟩ => ⟨S_, .i1⟩
  | .hbm, ⟨22, _⟩ => ⟨S588, .i1⟩
  | .hbm, ⟨23, _⟩ => ⟨S588x64, .f32⟩
  | .hbm, ⟨24, _⟩ => ⟨S588x64, .i1⟩
  | .hbm, ⟨25, _⟩ => ⟨S_, .f32⟩
  | .hbm, ⟨26, _⟩ => ⟨S588x64, .f32⟩
  | .hbm, ⟨27, _⟩ => ⟨S588x64, .f32⟩
  | .hbm, ⟨28, _⟩ => ⟨S1024x588x64, .f32⟩
  | .hbm, ⟨29, _⟩ => ⟨S1x1x64, .f32⟩
  | .hbm, ⟨30, _⟩ => ⟨S1024x588x64, .f32⟩
  | .hbm, ⟨31, _⟩ => ⟨S1024x588x64, .f32⟩
  | .hbm, ⟨32, _⟩ => ⟨S1x588x64, .f32⟩
  | .hbm, ⟨33, _⟩ => ⟨S1024x588x64, .f32⟩
  | .hbm, ⟨34, _⟩ => ⟨S1024x588x64, .f32⟩
  | _, _ => ⟨S1024x588x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩

abbrev nD : Nat := 1
abbrev τ : Topo := Topo.v7x

variable {F : FTy → Type} [FloatOps F]
-- ==== Proof.Tile.lean ====
/- What one grid point computes. The kernel body stores one `147 × 256` tile for each of the 128 rows of its block; every tile is the same function
   of the row, the weights and the scratch table. At the first point the body also fills the scratch table. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ReadBack
public import Idealize.ShloMosaic.Lib.Pipeline.ValueKit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body's branch condition at a grid coordinate: the point is the first. -/
abbrev isFirst (i : grid0.Coords) : Prop := (Scalar.cmpi .ne (Scalar.extui (Scalar.cmpi .eq (BitVec.ofNat 32 (i 0).val) 0#32)) 0#32) = 1#1

/-- One column of the index block, as the body loads it. -/
def col (k : Fin 4) (x0 : Vec F S147x4 .i32) : Vec F S147x1 .i32 := fun j => x0 (ix2 (j 0) k)

/-- The scratch table the first point stores: each group's four one-hot rows side by side, times the embedding block. -/
def table (x0 : Vec F S147x4 .i32) (x1 : Vec F S32x256 .f32) : Vec F S147x256 .f32 :=
  k0_pay3 (col 0 x0) (col 1 x0) (col 2 x0) (col 3 x0) x1

/-- The tile stored for one row: the row's 147 groups times the weights, plus the scratch table, rounded. -/
def tile (w : Vec F S64x256 .bf16) (y : Vec F S147x256 .f32) (r : Vec F S1x147x64 .bf16) : FVec F S1x147x256 .bf16 :=
  k0_pay5 w y r

/-- The whole output block of a point: row `b` holds the tile of row `b` of the input block. -/
def outBlk (w : Vec F S64x256 .bf16) (y : Vec F S147x256 .f32) (x : Vec F S128x147x64 .bf16) : Vec F S128x147x256 .bf16 :=
  fun j => tile w y (fun k => x (ix3 (j 0) (k 1) (k 2))) (ix3 0 (j 1) (j 2))

/-- A stored tile is the block's row it is stored at: the row loaded at offset `b` of the input block gives the output block's row `b`. -/
theorem tile_at (arg4 : Memref sig .tc .vmem S128x147x64 .bf16) (harg4 : arg4.IsWhole) (w : Vec F S64x256 .bf16) (y : Vec F S147x256 .f32) (x : Vec F S128x147x64 .bf16)
    (b : ℕ) (inb : ∀ a, (![b, 0, 0] : Fin 3 → ℕ) a + S1x147x64.size a ≤ S128x147x64.size a)
    (inb' : ∀ a, (![b, 0, 0] : Fin 3 → ℕ) a + S1x147x256.size a ≤ S128x147x256.size a) (j : S1x147x256.Idx) :
    tile w y (arg4.view.readAt (Elt F) (Rect.unit (s := S128x147x64) ![b, 0, 0] S1x147x64.size inb).toLoadRect (harg4.unread x)) j
      = outBlk w y x ((Rect.unit (s := S128x147x256) ![b, 0, 0] S1x147x256.size inb').emb j) := by
  unfold outBlk
  have h0 : (j 0).val = 0 := by have := (j 0).isLt; change _ < 1 at this; omega
  have hj : (ix3 0 (((Rect.unit (s := S128x147x256) ![b, 0, 0] S1x147x256.size inb').emb j) 1) (((Rect.unit (s := S128x147x256) ![b, 0, 0] S1x147x256.size inb').emb j) 2) : S1x147x256.Idx) = j := by
    funext a
    match a with
    | 0 => exact Fin.ext (by show 0 = (j 0).val; omega)
    | 1 => exact Fin.ext (by show 0 + 1 * (j 1).val = (j 1).val; omega)
    | 2 => exact Fin.ext (by show 0 + 1 * (j 2).val = (j 2).val; omega)
  rw [hj]
  congr 1
  rw [View.readAt_eq_ld, harg4.read_unread]
  funext k
  refine congrArg x (funext fun a => ?_)
  match a with
  | 0 => exact Fin.ext (by
      have h := (k 0).isLt; change _ < 1 at h
      show b + 1 * (k 0).val = b + 1 * (j 0).val
      omega)
  | 1 => exact Fin.ext (by show 0 + 1 * (k 1).val = (k 1).val; omega)
  | 2 => exact Fin.ext (by show 0 + 1 * (k 2).val = (k 2).val; omega)

/-- A column loaded from the index block. -/
theorem col_at (arg1 : Memref sig .tc .vmem S147x4 .i32) (harg1 : arg1.IsWhole) (x0 : Vec F S147x4 .i32) (k : Fin 4)
    (inb : ∀ a, (![0, k.val] : Fin 2 → ℕ) a + S147x1.size a ≤ S147x4.size a) :
    arg1.view.readAt (Elt F) (Rect.unit (s := S147x4) ![0, k.val] S147x1.size inb).toLoadRect (harg1.unread x0) = col k x0 := by
  rw [View.readAt_eq_ld, harg1.read_unread]
  funext j
  refine congrArg x0 (funext fun a => ?_)
  match a with
  | 0 => exact Fin.ext (by show 0 + 1 * (j 0).val = (j 0).val; omega)
  | 1 => exact Fin.ext (by have h := (j 1).isLt; change _ < 1 at h; show k.val + 1 * (j 1).val = k.val; omega)

/-- What the first point stores into the scratch, from the loads it makes, is the table of its two blocks. -/
theorem table_at (arg1 : Memref sig .tc .vmem S147x4 .i32) (harg1 : arg1.IsWhole) (arg2 : Memref sig .tc .vmem S32x256 .f32) (harg2 : arg2.IsWhole)
    (x0 : Vec F S147x4 .i32) (x1 : Vec F S32x256 .f32) (inb0 inb1 inb2 inb3) (inb : ∀ a, (![0, 0] : Fin 2 → ℕ) a + S32x256.size a ≤ S32x256.size a) :
    k0_pay3 (arg1.view.readAt (Elt F) (Rect.unit (s := S147x4) ![0, 0] S147x1.size inb0).toLoadRect (harg1.unread x0))
      (arg1.view.readAt (Elt F) (Rect.unit (s := S147x4) ![0, 1] S147x1.size inb1).toLoadRect (harg1.unread x0))
      (arg1.view.readAt (Elt F) (Rect.unit (s := S147x4) ![0, 2] S147x1.size inb2).toLoadRect (harg1.unread x0))
      (arg1.view.readAt (Elt F) (Rect.unit (s := S147x4) ![0, 3] S147x1.size inb3).toLoadRect (harg1.unread x0))
      (arg2.view.readAt (Elt F) (Rect.unit (s := S32x256) ![0, 0] S32x256.size inb).toLoadRect (harg2.unread x1)) = table x0 x1 := by
  unfold table
  congr 1
  · exact col_at arg1 harg1 x0 0 inb0
  · exact col_at arg1 harg1 x0 1 inb1
  · exact col_at arg1 harg1 x0 2 inb2
  · exact col_at arg1 harg1 x0 3 inb3
  · exact (View.readAt_full _ _ _).trans (harg2.read_unread _)

/-- A list of stores is the output block's pieces when its first store is the tile of the row loaded at the same offset and the rest are pieces. -/
theorem pieces_cons {arg4 : Memref sig .tc .vmem S128x147x64 .bf16} {harg4 : arg4.IsWhole} {w : Vec F S64x256 .bf16} {y : Vec F S147x256 .f32} {x : Vec F S128x147x64 .bf16}
    {b : ℕ} {inb' : ∀ a, (![b, 0, 0] : Fin 3 → ℕ) a + S1x147x256.size a ≤ S128x147x256.size a} {p : S1x147x256.Idx → Elt F .bf16} {L : List (View.Piece (Elt F) S128x147x256 .bf16)}
    (inb : ∀ a, (![b, 0, 0] : Fin 3 → ℕ) a + S1x147x64.size a ≤ S128x147x64.size a)
    (hp : p = tile w y (arg4.view.readAt (Elt F) (Rect.unit (s := S128x147x64) ![b, 0, 0] S1x147x64.size inb).toLoadRect (harg4.unread x)))
    (hL : View.PiecesOf (outBlk w y x) L) : View.PiecesOf (outBlk w y x) (⟨Rect.unit (s := S128x147x256) ![b, 0, 0] S1x147x256.size inb', p⟩ :: L) := by
  subst hp
  exact ⟨fun j => tile_at arg4 harg4 w y x b inb inb' j, hL⟩

end Cert.KernelIdeal.Hand

end
-- ==== Proof.Body.lean ====
/- What one grid point computes. The kernel body stores one `147 × 256` tile for each of the 128 rows of its block; every tile is the same function
   of the row, the weights and the scratch table. At the first point the body also fills the scratch table. -/
module

public import proofs.«01_k».proof.Proof.Tile
public import Idealize.ShloMosaic.Lib.Pipeline.FrameBody
public import Idealize.ShloMosaic.Lib.Pipeline.ReadBack
public import Idealize.ShloMosaic.Lib.Pipeline.ValueKit
public import Idealize.ShloMosaic.Lib.VecWindow
public import Idealize.ShloMosaic.Lib.WholeRead
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A later point: the scratch table stays as it was and the output block becomes `outBlk` of the weights, the table and the input block. -/
theorem body_later (c : Dev nD) (i : grid0.Coords) (arg1 : Memref sig .tc .vmem S147x4 .i32) (harg1 : arg1.IsWhole) (arg2 : Memref sig .tc .vmem S32x256 .f32) (harg2 : arg2.IsWhole)
    (arg3 : Memref sig .tc .vmem S64x256 .bf16) (harg3 : arg3.IsWhole) (arg4 : Memref sig .tc .vmem S128x147x64 .bf16) (harg4 : arg4.IsWhole)
    (arg5 : Memref sig .tc .vmem S128x147x256 .bf16) (harg5 : arg5.IsWhole) (arg6 : Memref sig .tc .vmem S147x256 .f32) (harg6 : arg6.IsWhole) (hc0 : ¬ isFirst i)
    (x2 : Vec F S64x256 .bf16) (x3 : Vec F S128x147x64 .bf16) (y : Vec F S147x256 .f32) (E : Set ℕ) (K : PUnit → sProp 𝕄) :
    iprop(owns (c : Thread nD τ) arg3 fullShare x2 ∗ owns (c : Thread nD τ) arg4 fullShare x3 ∗ (∃ d, owns (c : Thread nD τ) arg5 fullShare d) ∗ owns (c : Thread nD τ) arg6 fullShare y
      ∗ (iprop(owns (c : Thread nD τ) arg3 fullShare x2 ∗ owns (c : Thread nD τ) arg4 fullShare x3 ∗ owns (c : Thread nD τ) arg5 fullShare (outBlk x2 y x3) ∗ owns (c : Thread nD τ) arg6 fullShare y) -∗ K ⟨⟩))
      ⊢ wp frame (wpE (defs₀ (F := F)) Variants.none c none) E (cc0__kernel_body i arg1 harg1 arg2 harg2 arg3 harg3 arg4 harg4 arg5 harg5 arg6 harg6) K := by
  simp only [cc0__kernel_body_eq_skeleton]; unfold cc0__kernel_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold owns
  iintro ⟨⟨%f2, %hf2, H2⟩, ⟨%f3, %hf3, H3⟩, ⟨%d4, %f4, -, H4⟩, ⟨%fs0, %hfs0, HS0⟩, Hk⟩
  obtain rfl := harg3.eq_unread hf2; obtain rfl := harg4.eq_unread hf3; obtain rfl := harg6.eq_unread hfs0
  sl_exec (disch := first | sl_exact hc0)
  sl_step
  iapply Hk
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    funext j
    refine View.read_writes_apply_of_pieces _ _ _ _ (View.PiecesOf.mem ?_) j (View.cover_of_tiledL (s := S128x147x256) _ S1x147x256.size (by sl_kernel_rfl) j)
    sl_unfold_run_names
    rw [show arg3.view.readAt (Elt F) (Rect.unit ![0, 0] S64x256.size inb_S64x256_S64x256_0_0).toLoadRect (harg3.unread x2) = x2 from
        (View.readAt_full _ _ _).trans (harg3.read_unread _),
      show arg6.view.readAt (Elt F) (Rect.unit ![0, 0] S147x256.size inb_S147x256_S147x256_0_0).toLoadRect (harg6.unread y) = y from
        (View.readAt_full _ _ _).trans (harg6.read_unread _)]
    repeat' (first | exact trivial | refine pieces_cons _ rfl ?_)
  · iexists _; isplitr; · ipureintro; exact harg6.read_unread _
    iexact HS0

end Cert.KernelIdeal.Hand

end
-- ==== Proof.First.lean ====
/- What one grid point computes. The kernel body stores one `147 × 256` tile for each of the 128 rows of its block; every tile is the same function
   of the row, the weights and the scratch table. At the first point the body also fills the scratch table. -/
module

public import proofs.«01_k».proof.Proof.Tile
public import Idealize.ShloMosaic.Lib.Pipeline.FrameBody
public import Idealize.ShloMosaic.Lib.Pipeline.ReadBack
public import Idealize.ShloMosaic.Lib.Pipeline.ValueKit
public import Idealize.ShloMosaic.Lib.VecWindow
public import Idealize.ShloMosaic.Lib.WholeRead
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first point: the scratch table is filled from the index and embedding blocks, and the output block becomes `outBlk` of the weights, the table and the input block. -/
theorem body_first (c : Dev nD) (i : grid0.Coords) (arg1 : Memref sig .tc .vmem S147x4 .i32) (harg1 : arg1.IsWhole) (arg2 : Memref sig .tc .vmem S32x256 .f32) (harg2 : arg2.IsWhole)
    (arg3 : Memref sig .tc .vmem S64x256 .bf16) (harg3 : arg3.IsWhole) (arg4 : Memref sig .tc .vmem S128x147x64 .bf16) (harg4 : arg4.IsWhole)
    (arg5 : Memref sig .tc .vmem S128x147x256 .bf16) (harg5 : arg5.IsWhole) (arg6 : Memref sig .tc .vmem S147x256 .f32) (harg6 : arg6.IsWhole) (hc0 : isFirst i)
    (x0 : Vec F S147x4 .i32) (x1 : Vec F S32x256 .f32) (x2 : Vec F S64x256 .bf16) (x3 : Vec F S128x147x64 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outBlk x2 (table x0 x1) x3) ∗ owns (c : Thread nD τ) arg6 fullShare (table x0 x1)) -∗ K ⟨⟩))
      ⊢ wp frame (wpE (defs₀ (F := F)) Variants.none c none) E (cc0__kernel_body i arg1 harg1 arg2 harg2 arg3 harg3 arg4 harg4 arg5 harg5 arg6 harg6) K := by
  simp only [cc0__kernel_body_eq_skeleton]; unfold cc0__kernel_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d6, %fs0, -, HS0⟩, Hk⟩
  obtain rfl := harg1.eq_unread hf0; obtain rfl := harg2.eq_unread hf1; obtain rfl := harg3.eq_unread hf2; obtain rfl := harg4.eq_unread hf3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    funext j
    refine View.read_writes_apply_of_pieces _ _ _ _ (View.PiecesOf.mem ?_) j (View.cover_of_tiledL (s := S128x147x256) _ S1x147x256.size (by sl_kernel_rfl) j)
    sl_unfold_run_names
    rw [show arg3.view.readAt (Elt F) (Rect.unit ![0, 0] S64x256.size inb_S64x256_S64x256_0_0).toLoadRect (harg3.unread x2) = x2 from
        (View.readAt_full _ _ _).trans (harg3.read_unread _),
      table_at arg1 harg1 arg2 harg2 x0 x1 inb_S147x4_S147x1_0_0 inb_S147x4_S147x1_0_1 inb_S147x4_S147x1_0_2 inb_S147x4_S147x1_0_3 inb_S32x256_S32x256_0_0,
      show arg6.view.readCov [⟨Rect.unit ![0, 0] S147x256.size inb_S147x256_S147x256_0_0, table x0 x1⟩] (Rect.unit ![0, 0] S147x256.size inb_S147x256_S147x256_0_0).toLoadRect = table x0 x1 from
        View.readCov_full _ _ _ _ _]
    repeat' (first | exact trivial | refine pieces_cons _ rfl ?_)
  · iexists _; isplitr
    swap; · iexact HS0
    ipureintro
    sl_unfold_run_names
    exact (View.read_writes_full _ _ _ _ _).trans (table_at arg1 harg1 arg2 harg2 x0 x1 _ _ _ _ _)

end Cert.KernelIdeal.Hand

end
-- ==== Proof.Step.lean ====
/- One grid point of either pallas_call: the two cases of the body put together over the state of the scratch, and the block an input window holds. -/
module

public import proofs.«01_k».proof.Proof.Body
public import proofs.«01_k».proof.Proof.First

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The scratch before point `n`: anything before the first point, the table `y` before every later one. -/
def scratchAt (c : Dev nD) (sc : Memref sig .tc .vmem S147x256 .f32) (y : Vec F S147x256 .f32) : ℕ → sProp 𝕄
  | 0 => iprop(∃ d, owns (c : Thread nD τ) sc fullShare d)
  | _ + 1 => owns (c : Thread nD τ) sc fullShare y

/-- Whatever the point, the scratch is owned at some contents. -/
theorem scratchAt_some (c : Dev nD) (sc : Memref sig .tc .vmem S147x256 .f32) (y : Vec F S147x256 .f32) (n : ℕ) :
    scratchAt c sc y n ⊢ iprop(∃ d, owns (c : Thread nD τ) sc fullShare d) := by
  match n with
  | 0 => exact .rfl
  | _ + 1 =>
    unfold scratchAt
    iintro H
    iexists _; iexact H

/-- The buffer `b` owned whole at some contents. -/
abbrev someBuf (c : Dev nD) (b : Ref sig .tc) : sProp 𝕄 :=
  iprop(∃ f : Buf (Elt F) ((c : Thread nD τ).loc b), ((c : Thread nD τ).loc b) ↦{fullShare} f)

/-- The grid has four points, and the body's branch is taken at point 0 alone. -/
theorem isFirst_iff (t : Fin cfg0.N) : isFirst (grid0.coords t) ↔ t.val = 0 := by
  have ht : t.val < 4 := Nat.lt_of_lt_of_eq t.isLt N_0
  have e0 : (grid0.coords t 0).val = t.val / 1 % 4 := Pipeline.Grid.coords_val t 0 (by decide) rfl
  have h4 : (isFirst (grid0.coords t)) ↔ t.val % 4 = 0 := by
    simp only [isFirst, e0]
    word_cmp
  rw [h4]; omega

/-- One point: with the input blocks at `x0 … x3` and the scratch as it is before point `n`, the body leaves the scratch as it is before point `n + 1`
    and the output block at `outBlk x2 y x3`. -/
theorem body_step (c : Dev nD) (i : grid0.Coords) (n : ℕ) (hn : isFirst i ↔ n = 0)
    (arg1 : Memref sig .tc .vmem S147x4 .i32) (harg1 : arg1.IsWhole) (arg2 : Memref sig .tc .vmem S32x256 .f32) (harg2 : arg2.IsWhole)
    (arg3 : Memref sig .tc .vmem S64x256 .bf16) (harg3 : arg3.IsWhole) (arg4 : Memref sig .tc .vmem S128x147x64 .bf16) (harg4 : arg4.IsWhole)
    (arg5 : Memref sig .tc .vmem S128x147x256 .bf16) (harg5 : arg5.IsWhole) (arg6 : Memref sig .tc .vmem S147x256 .f32) (harg6 : arg6.IsWhole)
    (x0 : Vec F S147x4 .i32) (x1 : Vec F S32x256 .f32) (x2 : Vec F S64x256 .bf16) (x3 : Vec F S128x147x64 .bf16) (y : Vec F S147x256 .f32)
    (hy : n = 0 → y = table x0 x1) (E : Set ℕ) (K : PUnit → sProp 𝕄) :
    iprop(scratchAt c arg6 y n ∗ owns (c : Thread nD τ) arg1 fullShare x0 ∗ owns (c : Thread nD τ) arg2 fullShare x1 ∗ owns (c : Thread nD τ) arg3 fullShare x2
      ∗ owns (c : Thread nD τ) arg4 fullShare x3 ∗ (∃ d, owns (c : Thread nD τ) arg5 fullShare d)
      ∗ (iprop(scratchAt c arg6 y (n + 1) ∗ owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (outBlk x2 y x3)) -∗ K ⟨⟩))
      ⊢ wp frame (wpE (defs₀ (F := F)) Variants.none c none) E (cc0__kernel_body i arg1 harg1 arg2 harg2 arg3 harg3 arg4 harg4 arg5 harg5 arg6 harg6) K := by
  match n with
  | 0 =>
    have hf : isFirst i := hn.mpr rfl
    obtain rfl := hy rfl
    iintro ⟨HS, H0, H1, H2, H3, H4, Hk⟩
    iapply (body_first c i arg1 harg1 arg2 harg2 arg3 harg3 arg4 harg4 arg5 harg5 arg6 harg6 hf x0 x1 x2 x3 E K)
    isplitl [H0]; · iexact H0
    isplitl [H1]; · iexact H1
    isplitl [H2]; · iexact H2
    isplitl [H3]; · iexact H3
    isplitl [H4]; · iexact H4
    isplitl [HS]; · unfold scratchAt; iexact HS
    iintro ⟨H0, H1, H2, H3, H4, HS⟩
    iapply Hk
    isplitl [HS]; · unfold scratchAt; iexact HS
    isplitl [H0]; · iexact H0
    isplitl [H1]; · iexact H1
    isplitl [H2]; · iexact H2
    isplitl [H3]; · iexact H3
    iexact H4
  | n + 1 =>
    have hf : ¬ isFirst i := fun h => Nat.succ_ne_zero n (hn.mp h)
    iintro ⟨HS, H0, H1, H2, H3, H4, Hk⟩
    iapply (body_later c i arg1 harg1 arg2 harg2 arg3 harg3 arg4 harg4 arg5 harg5 arg6 harg6 hf x2 x3 y E K)
    isplitl [H2]; · iexact H2
    isplitl [H3]; · iexact H3
    isplitl [H4]; · iexact H4
    isplitl [HS]; · unfold scratchAt; iexact HS
    iintro ⟨H2, H3, H4, HS⟩
    iapply Hk
    isplitl [HS]; · unfold scratchAt; iexact HS
    isplitl [H0]; · iexact H0
    isplitl [H1]; · iexact H1
    isplitl [H2]; · iexact H2
    isplitl [H3]; · iexact H3
    iexact H4

/-- The same in the form a pallas_call's invariant has: `R`, `G` and `O` pass through untouched, and each window's buffer is found at some earlier contents `d`. -/
theorem body_point (c : Dev nD) (i : grid0.Coords) (n : ℕ) (hn : isFirst i ↔ n = 0)
    (arg1 : Memref sig .tc .vmem S147x4 .i32) (harg1 : arg1.IsWhole) (arg2 : Memref sig .tc .vmem S32x256 .f32) (harg2 : arg2.IsWhole)
    (arg3 : Memref sig .tc .vmem S64x256 .bf16) (harg3 : arg3.IsWhole) (arg4 : Memref sig .tc .vmem S128x147x64 .bf16) (harg4 : arg4.IsWhole)
    (arg5 : Memref sig .tc .vmem S128x147x256 .bf16) (harg5 : arg5.IsWhole) (arg6 : Memref sig .tc .vmem S147x256 .f32) (harg6 : arg6.IsWhole)
    (x0 : Vec F S147x4 .i32) (x1 : Vec F S32x256 .f32) (x2 : Vec F S64x256 .bf16) (x3 : Vec F S128x147x64 .bf16) (y : Vec F S147x256 .f32)
    (hy : n = 0 → y = table x0 x1) (E : Set ℕ) {D0 D1 D2 D3 D4 : Type} (b4 : D4 → Vec F S128x147x256 .bf16) (R G O : sProp 𝕄) :
    iprop(((scratchAt c arg6 y n ∗ R) ∗ G) ∗ O ∗ (∃ _ : D0, owns (c : Thread nD τ) arg1 fullShare x0) ∗ (∃ _ : D1, owns (c : Thread nD τ) arg2 fullShare x1)
      ∗ (∃ _ : D2, owns (c : Thread nD τ) arg3 fullShare x2) ∗ (∃ _ : D3, owns (c : Thread nD τ) arg4 fullShare x3) ∗ (∃ d : D4, owns (c : Thread nD τ) arg5 fullShare (b4 d)))
      ⊢ wp frame (wpE (defs₀ (F := F)) Variants.none c none) E (cc0__kernel_body i arg1 harg1 arg2 harg2 arg3 harg3 arg4 harg4 arg5 harg5 arg6 harg6)
        (fun _ => iprop(((scratchAt c arg6 y (n + 1) ∗ R) ∗ G) ∗ O ∗ owns (c : Thread nD τ) arg1 fullShare x0 ∗ owns (c : Thread nD τ) arg2 fullShare x1
          ∗ owns (c : Thread nD τ) arg3 fullShare x2 ∗ owns (c : Thread nD τ) arg4 fullShare x3 ∗ owns (c : Thread nD τ) arg5 fullShare (outBlk x2 y x3))) := by
  iintro ⟨⟨⟨HS, HR⟩, Hg⟩, Ho, ⟨%d0, H0⟩, ⟨%d1, H1⟩, ⟨%d2, H2⟩, ⟨%d3, H3⟩, ⟨%d4, H4⟩⟩
  iapply (body_step c i n hn arg1 harg1 arg2 harg2 arg3 harg3 arg4 harg4 arg5 harg5 arg6 harg6 x0 x1 x2 x3 y hy E _)
  isplitl [HS]; · iexact HS
  isplitl [H0]; · iexact H0
  isplitl [H1]; · iexact H1
  isplitl [H2]; · iexact H2
  isplitl [H3]; · iexact H3
  isplitl [H4]; · iexists _; iexact H4
  iintro ⟨HS, H0, H1, H2, H3, H4⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  iexact H4

end Cert.KernelIdeal.Hand

end
-- ==== Proof.Region0.lean ====
/- The first pallas_call: its proof data at any entry contents of the buffers, and the library's body obligation for it. The scratch table is carried from
   point to point: anything before the first point, the table of the index and embedding blocks afterwards. -/
module

public import proofs.«01_k».proof.Proof.Step

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch table of this call: that of the index and embedding blocks of its first point. -/
def tab0 (c : Dev nD) : Vec F S147x256 .f32 := table (iblk0 V c 0 t0_0) (iblk0 V c 1 t0_0)

/-- The scoped buffers the call does not use, each at some contents. -/
def rest0 (c : Dev nD) : sProp 𝕄 :=
  iprop(someBuf c cc1_stg0_0 ∗ someBuf c cc1_stg1_0 ∗ someBuf c cc1_stg2_0 ∗ someBuf c cc1_stg3_0 ∗ someBuf c cc1_stg3_1 ∗ someBuf c cc1_stg4_0 ∗ someBuf c cc1_stg4_1 ∗ someBuf c cc1_scratch0)

/-- The call's invariant before point `n`. -/
def inv0 (c : Dev nD) (n : ℕ) : sProp 𝕄 :=
  iprop((scratchAt c (Memref.whole cc0_scratch0) (tab0 V c) n ∗ rest0 c) ∗ (∃ r, prngReg c r))

/-- The proof data: inputs keep their blocks, the output block is `outBlk` of the weights, the table and the input block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outBlk (iblk0 V c 2 t) (tab0 V c) (iblk0 V c 3 t)
  Φ t := inv0 V c t.val
  q _ := fullShare
  owed _ := 0

/-- The arrays are the entry contents. -/
theorem A_eq0 (c : Dev nD) (w : Fin cfg0.W) : (dat0 V c).A w = V c (Pipeline.arrRef spec0 w) := by
  dsimp only [dat0]

/-- What the body leaves in the output window. -/
theorem after0_4 (c : Dev nD) (t : Fin cfg0.N) : (dat0 V c).after 4 t = outBlk (iblk0 V c 2 t) (tab0 V c) (iblk0 V c 3 t) := by dsimp only [dat0]

/-- An input window's buffer holds its block at every point, fetched there or not. -/
theorem before0 (c : Dev nD) (w : Fin cfg0.W) (hw : (cfg0.win w).isOut = false) (hcut : ∀ t t' : Fin cfg0.N, (cfg0.win w).index t = (cfg0.win w).index t' →
      (cfg0.win w).clip (cfg0.grid.coords t) = (cfg0.win w).clip (cfg0.grid.coords t'))
    (hafter : ∀ t, (cfg0.win w).cut (cfg0.grid.coords t) ((dat0 V c).after w t) = iblk0 V c w t) (t : Fin cfg0.N) (d) : (dat0 V c).before w t d = (dat0 V c).fetched w t d :=
  (dat0 V c).before_in_eq_fetched w hw (fun _ => rfl) hcut (fun t => by rw [hafter]; unfold Dat.blockOf iblk0; rw [A_eq0]) t d

/-- A point's obligation, the windows one by one. -/
theorem point0 (c : Dev nD) (t : Fin cfg0.N) :
    iprop((dat0 V c).Φ t.castSucc ∗ (dat0 V c).owesAt () t.castSucc
      ∗ (∃ d, owns (c : Thread nD τ) (st0_0 t) fullShare ((dat0 V c).before 0 t d)) ∗ (∃ d, owns (c : Thread nD τ) (st0_1 t) fullShare ((dat0 V c).before 1 t d))
      ∗ (∃ d, owns (c : Thread nD τ) (st0_2 t) fullShare ((dat0 V c).before 2 t d)) ∗ (∃ d, owns (c : Thread nD τ) (st0_3 t) fullShare ((dat0 V c).before 3 t d))
      ∗ (∃ d, owns (c : Thread nD τ) (st0_4 t) fullShare ((dat0 V c).before 4 t d)))
      ⊢ wp frame (wpE (defs₀ (F := F)) Variants.none c none) Set.univ (bodyAt0 t) (fun _ =>
        iprop((dat0 V c).Φ t.succ ∗ (dat0 V c).owesAt () t.succ
          ∗ owns (c : Thread nD τ) (st0_0 t) fullShare ((dat0 V c).after 0 t) ∗ owns (c : Thread nD τ) (st0_1 t) fullShare ((dat0 V c).after 1 t)
          ∗ owns (c : Thread nD τ) (st0_2 t) fullShare ((dat0 V c).after 2 t) ∗ owns (c : Thread nD τ) (st0_3 t) fullShare ((dat0 V c).after 3 t)
          ∗ owns (c : Thread nD τ) (st0_4 t) fullShare ((dat0 V c).after 4 t))) := by
  have e0 : ∀ d, (dat0 V c).before 0 t d = iblk0 V c 0 t := fun d => (before0 V c 0 rfl (fun _ _ _ => rfl) (fun _ => rfl) t d).trans rfl
  have e1 : ∀ d, (dat0 V c).before 1 t d = iblk0 V c 1 t := fun d => (before0 V c 1 rfl (fun _ _ _ => rfl) (fun _ => rfl) t d).trans rfl
  have e2 : ∀ d, (dat0 V c).before 2 t d = iblk0 V c 2 t := fun d => (before0 V c 2 rfl (fun _ _ _ => rfl) (fun _ => rfl) t d).trans rfl
  have e3 : ∀ d, (dat0 V c).before 3 t d = iblk0 V c 3 t := fun d => (before0 V c 3 rfl (fun _ _ _ => rfl) (fun _ => rfl) t d).trans rfl
  simp only [e0, e1, e2, e3]
  exact body_point c (grid0.coords t) t.val (isFirst_iff t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (Memref.isWhole_whole _)
    (iblk0 V c 0 t) (iblk0 V c 1 t) (iblk0 V c 2 t) (iblk0 V c 3 t) (tab0 V c)
    (fun h => by rw [show t = t0_0 from Fin.ext h]; rfl) Set.univ _ (rest0 c) _ _

/-- The body table's row at point `t` is the body there. -/
theorem row0 (t : Fin cfg0.N) : defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) V c) (defs₀ (F := F)) Variants.none () Set.univ := fun t => by
  rw [bigSep_W0, bigSep_W0, row0]
  exact triple_restated (point0 V c t) rfl .rfl fun _ => .rfl

/-- What the launch hands the call is the invariant before the first point. -/
theorem hin0 (c : Dev nD) : Pipeline.ΦA spec0 c ⊢ (dat0 V c).Φ 0 := by
  rw [show (dat0 V c).Φ 0 = inv0 V c 0 from rfl]
  unfold Pipeline.ΦA inv0 rest0 scratchAt; rw [scopedRest0_eq]; simp only [owns_whole]
  exact .rfl

/-- After the last point the invariant gives it back: the table is forgotten. -/
theorem hout0 (c : Dev nD) : (dat0 V c).Φ (Fin.last cfg0.N) ⊢ Pipeline.ΦA spec0 c := by
  refine (show (dat0 V c).Φ (Fin.last cfg0.N) ⊢ iprop(((∃ d, owns (c : Thread nD τ) (Memref.whole cc0_scratch0) fullShare d) ∗ rest0 c) ∗ (∃ r, prngReg c r)) from
    sep_mono (sep_mono (scratchAt_some c _ _ _) .rfl) .rfl).trans ?_
  unfold Pipeline.ΦA rest0; rw [scopedRest0_eq]; simp only [owns_whole]
  exact .rfl

end Cert.KernelIdeal.Hand

end
-- ==== Proof.Region1.lean ====
/- The second pallas_call: its proof data at any entry contents of the buffers, and the library's body obligation for it. The scratch table is carried from
   point to point: anything before the first point, the table of the index and embedding blocks afterwards. -/
module

public import proofs.«01_k».proof.Proof.Step

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch table of this call: that of the index and embedding blocks of its first point. -/
def tab1 (c : Dev nD) : Vec F S147x256 .f32 := table (iblk1 V c 0 t1_0) (iblk1 V c 1 t1_0)

/-- The scoped buffers the call does not use, each at some contents. -/
def rest1 (c : Dev nD) : sProp 𝕄 :=
  iprop(someBuf c cc0_stg0_0 ∗ someBuf c cc0_stg1_0 ∗ someBuf c cc0_stg2_0 ∗ someBuf c cc0_stg3_0 ∗ someBuf c cc0_stg3_1 ∗ someBuf c cc0_stg4_0 ∗ someBuf c cc0_stg4_1 ∗ someBuf c cc0_scratch0)

/-- The call's invariant before point `n`. -/
def inv1 (c : Dev nD) (n : ℕ) : sProp 𝕄 :=
  iprop((scratchAt c (Memref.whole cc1_scratch0) (tab1 V c) n ∗ rest1 c) ∗ (∃ r, prngReg c r))

/-- The proof data: inputs keep their blocks, the output block is `outBlk` of the weights, the table and the input block. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outBlk (iblk1 V c 2 t) (tab1 V c) (iblk1 V c 3 t)
  Φ t := inv1 V c t.val
  q _ := fullShare
  owed _ := 0

/-- The arrays are the entry contents. -/
theorem A_eq1 (c : Dev nD) (w : Fin cfg1.W) : (dat1 V c).A w = V c (Pipeline.arrRef spec1 w) := by
  dsimp only [dat1]

/-- What the body leaves in the output window. -/
theorem after1_4 (c : Dev nD) (t : Fin cfg1.N) : (dat1 V c).after 4 t = outBlk (iblk1 V c 2 t) (tab1 V c) (iblk1 V c 3 t) := by dsimp only [dat1]

/-- An input window's buffer holds its block at every point, fetched there or not. -/
theorem before1 (c : Dev nD) (w : Fin cfg1.W) (hw : (cfg1.win w).isOut = false) (hcut : ∀ t t' : Fin cfg1.N, (cfg1.win w).index t = (cfg1.win w).index t' →
      (cfg1.win w).clip (cfg1.grid.coords t) = (cfg1.win w).clip (cfg1.grid.coords t'))
    (hafter : ∀ t, (cfg1.win w).cut (cfg1.grid.coords t) ((dat1 V c).after w t) = iblk1 V c w t) (t : Fin cfg1.N) (d) : (dat1 V c).before w t d = (dat1 V c).fetched w t d :=
  (dat1 V c).before_in_eq_fetched w hw (fun _ => rfl) hcut (fun t => by rw [hafter]; unfold Dat.blockOf iblk1; rw [A_eq1]) t d

/-- A point's obligation, the windows one by one. -/
theorem point1 (c : Dev nD) (t : Fin cfg1.N) :
    iprop((dat1 V c).Φ t.castSucc ∗ (dat1 V c).owesAt () t.castSucc
      ∗ (∃ d, owns (c : Thread nD τ) (st1_0 t) fullShare ((dat1 V c).before 0 t d)) ∗ (∃ d, owns (c : Thread nD τ) (st1_1 t) fullShare ((dat1 V c).before 1 t d))
      ∗ (∃ d, owns (c : Thread nD τ) (st1_2 t) fullShare ((dat1 V c).before 2 t d)) ∗ (∃ d, owns (c : Thread nD τ) (st1_3 t) fullShare ((dat1 V c).before 3 t d))
      ∗ (∃ d, owns (c : Thread nD τ) (st1_4 t) fullShare ((dat1 V c).before 4 t d)))
      ⊢ wp frame (wpE (defs₀ (F := F)) Variants.none c none) Set.univ (bodyAt1 t) (fun _ =>
        iprop((dat1 V c).Φ t.succ ∗ (dat1 V c).owesAt () t.succ
          ∗ owns (c : Thread nD τ) (st1_0 t) fullShare ((dat1 V c).after 0 t) ∗ owns (c : Thread nD τ) (st1_1 t) fullShare ((dat1 V c).after 1 t)
          ∗ owns (c : Thread nD τ) (st1_2 t) fullShare ((dat1 V c).after 2 t) ∗ owns (c : Thread nD τ) (st1_3 t) fullShare ((dat1 V c).after 3 t)
          ∗ owns (c : Thread nD τ) (st1_4 t) fullShare ((dat1 V c).after 4 t))) := by
  have e0 : ∀ d, (dat1 V c).before 0 t d = iblk1 V c 0 t := fun d => (before1 V c 0 rfl (fun _ _ _ => rfl) (fun _ => rfl) t d).trans rfl
  have e1 : ∀ d, (dat1 V c).before 1 t d = iblk1 V c 1 t := fun d => (before1 V c 1 rfl (fun _ _ _ => rfl) (fun _ => rfl) t d).trans rfl
  have e2 : ∀ d, (dat1 V c).before 2 t d = iblk1 V c 2 t := fun d => (before1 V c 2 rfl (fun _ _ _ => rfl) (fun _ => rfl) t d).trans rfl
  have e3 : ∀ d, (dat1 V c).before 3 t d = iblk1 V c 3 t := fun d => (before1 V c 3 rfl (fun _ _ _ => rfl) (fun _ => rfl) t d).trans rfl
  simp only [e0, e1, e2, e3]
  exact body_point c (grid1.coords t) t.val (isFirst_iff t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (hstage1_4 ((cfg1.slots t 4).cast nbuf1_4)) _ (Memref.isWhole_whole _)
    (iblk1 V c 0 t) (iblk1 V c 1 t) (iblk1 V c 2 t) (iblk1 V c 3 t) (tab1 V c)
    (fun h => by rw [show t = t1_0 from Fin.ext h]; rfl) Set.univ _ (rest1 c) _ _

/-- The body table's row at point `t` is the body there. -/
theorem row1 (t : Fin cfg1.N) : defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, row1]
  exact triple_restated (point1 V c t) rfl .rfl fun _ => .rfl

/-- What the launch hands the call is the invariant before the first point. -/
theorem hin1 (c : Dev nD) : Pipeline.ΦA spec1 c ⊢ (dat1 V c).Φ 0 := by
  rw [show (dat1 V c).Φ 0 = inv1 V c 0 from rfl]
  unfold Pipeline.ΦA inv1 rest1 scratchAt; rw [scopedRest1_eq]; simp only [owns_whole]
  iintro ⟨⟨H0, H1, H2, H3, H4, H5, H6, H7, HS⟩, Hg⟩
  isplitr [Hg]
  · isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hg

/-- After the last point the invariant gives it back: the table is forgotten. -/
theorem hout1 (c : Dev nD) : (dat1 V c).Φ (Fin.last cfg1.N) ⊢ Pipeline.ΦA spec1 c := by
  refine (show (dat1 V c).Φ (Fin.last cfg1.N) ⊢ iprop(((∃ d, owns (c : Thread nD τ) (Memref.whole cc1_scratch0) fullShare d) ∗ rest1 c) ∗ (∃ r, prngReg c r)) from
    sep_mono (sep_mono (scratchAt_some c _ _ _) .rfl) .rfl).trans ?_
  unfold Pipeline.ΦA rest1; rw [scopedRest1_eq]; simp only [owns_whole]
  iintro ⟨⟨HS, H0, H1, H2, H3, H4, H5, H6, H7⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

end Cert.KernelIdeal.Hand

end
-- ==== Proof.Bounds.lean ====
/- What every buffer holds between the stretches of the program: the host operations before, between and after the two pallas_calls, and what each call leaves.
   No stretch writes an argument. -/
module

public import proofs.«01_k».proof.Proof.Region0
public import proofs.«01_k».proof.Proof.Region1
public import Idealize.ShloMosaic.Lib.Pipeline.RegionsLoop
public import Idealize.ShloMosaic.Lib.Pipeline.FrameSuffix

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_c, main_v2, main_v3, main_v4, main_v5]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_call0_v1, main_call0_v2, main_call0_v3, main_call0_v4, main_v6]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v7, main_v8, main_v9, main_v10]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps0_3` allocates a buffer. -/
theorem hostOps0_3_fresh : (hostOps0_3 : List (HloOp τ sig (Elt F))).Forall fun op => op.fresh = ∅ := by
  simp only [List.Forall]; repeat' constructor
/-- The reference each operation of `hostOps0_3` writes, in order. -/
abbrev hostOps0_3_W : List (Ref sig .tc) := [main_call1_v0, main_call1_v1, main_call1_v2, main_call1_v3, main_call1_v4, main_v11]
theorem hostOps0_3_writes : (hostOps0_3 : List (HloOp τ sig (Elt F))).Forall fun op => op.writes ⊆ (hostOps0_3_W.map (Proc.devRef (τ := τ) .tc)).toFinset :=
  StableHlo.forall_writes_sub_of_map rfl
/-- `hostOps0_3` writes none of the argument arrays (checked: each argument against each reference it writes). -/
theorem hostOps0_3_args : ∀ a ∈ argRefs, a ∉ hostOps0_3_W := ListAll.forall_mem_of_all_decide (by decide +kernel)

/-- No operation of `hostOps0_4` allocates a buffer. -/
theorem hostOps0_4_fresh : (hostOps0_4 : List (HloOp τ sig (Elt F))).Forall fun op => op.fresh = ∅ := by
  simp only [List.Forall]; repeat' constructor
/-- The reference each operation of `hostOps0_4` writes, in order. -/
abbrev hostOps0_4_W : List (Ref sig .tc) := [main_v12, main_v13, main_v14, main_v15]
theorem hostOps0_4_writes : (hostOps0_4 : List (HloOp τ sig (Elt F))).Forall fun op => op.writes ⊆ (hostOps0_4_W.map (Proc.devRef (τ := τ) .tc)).toFinset :=
  StableHlo.forall_writes_sub_of_map rfl
/-- `hostOps0_4` writes none of the argument arrays (checked: each argument against each reference it writes). -/
theorem hostOps0_4_args : ∀ a ∈ argRefs, a ∉ hostOps0_4_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v17, main_v18, main_v19, main_v20, main_v21]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v23, main_v24, main_v25]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3`. -/
abbrev W4 : Dev nD → Valuation τ sig (Elt F) := fun c => StableHlo.after hostOps0_3 (W3 m ρ c)
/-- A reference `hostOps0_3` does not write keeps its contents across it. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- After `hostOps0_4` (region 0's entry). -/
abbrev W5 : Dev nD → Valuation τ sig (Elt F) := fun c => StableHlo.after hostOps0_4 (W4 m ρ c)
/-- A reference `hostOps0_4` does not write keeps its contents across it. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- The same read at the TensorCore's references (what region 0's proof data take). -/
abbrev V5 : (c : Dev nD) → (b : Ref sig .tc) → Buf (Elt F) ((c : Thread nD τ).loc b) := fun c b => W5 m ρ c b
/-- At region 0's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- A reference that is none of region 0's OUTPUT arrays keeps its entry contents across it: an input window's
    array is never written back (`Dat.arrAt_in`, `A_eq0`); any other buffer is left as is. -/
theorem W6_of (c : Dev nD) (r : Ref sig .tc) (h : ∀ w : Fin cfg0.W, Pipeline.arrRef spec0 w = r → (cfg0.win w).isOut = false) :
    W6 m ρ c (Proc.devRef .tc r) = W5 m ρ c (Proc.devRef .tc r) := by
  by_cases hw : ∃ w : Fin cfg0.W, Pipeline.arrRef spec0 w = r
  · obtain ⟨w, rfl⟩ := hw
    exact (W6_arr m ρ c w).trans (((dat0 (V5 m ρ) c).arrAt_in w (h w rfl) _).trans (A_eq0 (V5 m ρ) c w))
  · exact W6_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn0 a ha)).trans (W5_args m ρ c a ha)
/-- The same read at the TensorCore's references (region 0's exit contents). -/
abbrev V6 : (c : Dev nD) → (b : Ref sig .tc) → Buf (Elt F) ((c : Thread nD τ).loc b) := fun c b => W6 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After `hostOps1` (region 1's entry). -/
abbrev W7 : Dev nD → Valuation τ sig (Elt F) := fun c => StableHlo.after hostOps1 (W6 m ρ c)
/-- A reference `hostOps1` does not write keeps its contents across it. -/
theorem W7_of (c : Dev nD) (r : Ref sig .tc) (h : r ∉ hostOps1_W) : W7 m ρ c (Proc.devRef .tc r) = W6 m ρ c (Proc.devRef .tc r) :=
  StableHlo.after_of_writes_sub hostOps1 _ hostOps1_writes h
theorem W7_args (c : Dev nD) : ∀ a ∈ argRefs, W7 m ρ c (Proc.devRef .tc a) = m ((c : Thread nD τ).loc a) :=
  fun a ha => (W7_of m ρ c a (hostOps1_args a ha)).trans (W6_args m ρ c a ha)
/-- The same read at the TensorCore's references (what region 1's proof data take). -/
abbrev V7 : (c : Dev nD) → (b : Ref sig .tc) → Buf (Elt F) ((c : Thread nD τ).loc b) := fun c b => W7 m ρ c b
/-- At region 1's exit: its arrays at what the pipeline leaves (the inputs as entered, each output's write-backs
    folded: `Dat.arrAt … N`), every other buffer as entered (Lib/Pipeline/FrameSuffix.lean `withArrays`). -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- A reference that is none of region 1's OUTPUT arrays keeps its entry contents across it: an input window's
    array is never written back (`Dat.arrAt_in`, `A_eq1`); any other buffer is left as is. -/
theorem W8_of (c : Dev nD) (r : Ref sig .tc) (h : ∀ w : Fin cfg1.W, Pipeline.arrRef spec1 w = r → (cfg1.win w).isOut = false) :
    W8 m ρ c (Proc.devRef .tc r) = W7 m ρ c (Proc.devRef .tc r) := by
  by_cases hw : ∃ w : Fin cfg1.W, Pipeline.arrRef spec1 w = r
  · obtain ⟨w, rfl⟩ := hw
    exact (W8_arr m ρ c w).trans (((dat1 (V7 m ρ) c).arrAt_in w (h w rfl) _).trans (A_eq1 (V7 m ρ) c w))
  · exact W8_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn1 a ha)).trans (W7_args m ρ c a ha)
/-- The same read at the TensorCore's references (region 1's exit contents). -/
abbrev V8 : (c : Dev nD) → (b : Ref sig .tc) → Buf (Elt F) ((c : Thread nD τ).loc b) := fun c b => W8 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After `hostOps2`. -/
abbrev W9 : Dev nD → Valuation τ sig (Elt F) := fun c => StableHlo.after hostOps2 (W8 m ρ c)
/-- A reference `hostOps2` does not write keeps its contents across it. -/
theorem W9_of (c : Dev nD) (r : Ref sig .tc) (h : r ∉ hostOps2_W) : W9 m ρ c (Proc.devRef .tc r) = W8 m ρ c (Proc.devRef .tc r) :=
  StableHlo.after_of_writes_sub hostOps2 _ hostOps2_writes h
theorem W9_args (c : Dev nD) : ∀ a ∈ argRefs, W9 m ρ c (Proc.devRef .tc a) = m ((c : Thread nD τ).loc a) :=
  fun a ha => (W9_of m ρ c a (hostOps2_args a ha)).trans (W8_args m ρ c a ha)

end Cert.KernelIdeal.Hand

end
-- ==== Proof.Run.lean ====
/- The whole program run: its host stretches and its two pallas_calls as segments, from the launch to the return; every buffer's final contents and the frame. -/
module

public import proofs.«01_k».proof.Proof.Bounds

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- No argument is a scoped buffer. -/
theorem argRefs_unscoped : ∀ a ∈ argRefs, ¬ (Proc.devRef .tc a : DevRef τ sig).isScoped := ListAll.forall_mem_of_all_decide (by decide +kernel)
/-- The last thread state without the `owes` (the kit's chain ends at it BESIDE the core owing nothing): every unscoped
    buffer at the last boundary's contents `W9`, the generator register at some state. -/
abbrev Tₙ (c : Dev nD) : sProp 𝕄 := iprop(StableHlo.held (c : Thread nD τ) (Pipeline.ucRefs τ sig) (W9 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) (A_eq0 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V5 m ρ) c)
    unfold Pipeline.ΦA
    iintro ⟨Hp, -, Hr⟩
    isplitl [Hr]; · iexact Hr
    iexact Hp
  hout c := by
    rw [Pipeline.ownSems0_none]
    refine BIBase.Entails.trans (hout0 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) (A_eq1 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V7 m ρ) c)
    unfold Pipeline.ΦA
    iintro ⟨Hp, -, Hr⟩
    isplitl [Hr]; · iexact Hr
    iexact Hp
  hout c := by
    rw [Pipeline.ownSems0_none]
    refine BIBase.Entails.trans (hout1 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 9 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole program runs to its end from any memory with zero counters, every unscoped buffer ends at the last boundary's contents, and every counter at zero. -/
theorem run_all : θ_run defs (onTc (τ := τ) (main (F := F))) ⟨m, fun _ => 0, ρ⟩ (fun r => (∀ c : Dev nD, ∀ b ∈ Pipeline.ucRefs τ sig, r.2.mem (c, b) = W9 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨fun c b hb => h c b hb, funext fun g => hz g (.inr (no_unscoped g.2))⟩)

/-- The program's frame: it runs to its end with the five arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    have ha : ∀ a ∈ argRefs, r.2.mem ((c.tc : Thread nD τ).loc a) = m ((c.tc : Thread nD τ).loc a) := fun a ha => (h.1 c _ (mem_uc a (argRefs_unscoped a ha))).trans (W9_args m ρ c a ha)
    ⟨ha main_arg0 (by decide), ha main_arg1 (by decide), ha main_arg2 (by decide), ha main_arg3 (by decide), ha main_arg4 (by decide)⟩, h.2⟩) (run_all m ρ)

end Cert.KernelIdeal.Hand

end
-- ==== Proof.Transfer.lean ====
/- The kernel in its compiled number formats and its idealization print the same operations, so what the idealization's run shows at any number format holds of the kernel. -/
module

public import proofs.«01_k».proof.Proof.Run
public import proofs.«01_k».proof.Proof.Gen.Kernel.Skeleton

@[expose] public section

set_option maxRecDepth 16384

noncomputable section

namespace Cert.Kernel.Hand

open Idealize.ShloMosaic Idealize.ShloMosaic.TcCoe
open Idealize.SL Idealize.SL.Sem

variable {F : FTy → Type} [FloatOps F]

/-- The two programs are one. -/
theorem main_same : @Cert.KernelIdeal.main F _ _ = @Cert.Kernel.main F _ _ := rfl

/-- Their kernel bodies are one, label by label. -/
theorem bodies_same : @Cert.KernelIdeal.defs₀ F _ _ = @Cert.Kernel.defs₀ F _ _ := by
  unfold Cert.KernelIdeal.defs₀ Cert.Kernel.defs₀
  refine congrArg Defs.onTc ?_
  funext l a
  match l, a with
  | 0, (t, s) => rfl
  | 1, (t, s) => rfl

/-- Their whole tables of procedures are one. -/
theorem defs_same : @Cert.KernelIdeal.defs F _ _ = @Cert.Kernel.defs F _ _ := by
  unfold Cert.KernelIdeal.defs Cert.Kernel.defs
  rw [bodies_same]
  rfl

set_option maxHeartbeats 2000000 in
/-- The kernel's frame: it runs to its end with the five arguments unchanged and every counter at zero. -/
theorem frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  rw [← defs_same, ← main_same]
  exact Cert.KernelIdeal.Hand.frame m ρ

end Cert.Kernel.Hand

end
-- ==== Proof.HostValues.lean ====
/- What the host operations compute, as functions of the arguments: the block-diagonal weights and table rows, the channel groups, the two halves of the batch
   regrouped, and the result put together from the two calls' arrays. -/
module

public import proofs.«01_k».proof.Proof.Bounds
public import Idealize.ShloMosaic.Lib.StableHlo.Run

@[expose] public section

set_option maxRecDepth 16384

noncomputable section

namespace Cert.KernelIdeal.Hand

open Cert.KernelIdeal.Gen
open Idealize.ShloMosaic Idealize.ShloMosaic.TcCoe Idealize.ShloMosaic.StableHlo

variable {F : FTy → Type} [FloatOps F]

/-- The four-by-four identity, as the program writes it. -/
def eye : FVec F S4x4 .f32 := uitofp .f32 (cmpi .eq (addi (iotaInDim S4x4 32 0) (broadcastInDim S4x4 ![] bcast_S_S4x4 (constantI S_ 32 0#32))) (iotaInDim S4x4 32 1))

/-- The block-diagonal weights: four copies of the weights along the diagonal, rounded. -/
def weights (a2 : FVec F S16x64 .f32) : FVec F S64x256 .bf16 :=
  truncf .bf16 (shapeCast S64x256 (mulf (broadcastInDim S4x16x4x64 ![0, 1, 2, 3] bcast_S4x1x4x1_S4x16x4x64_0_1_2_3 (broadcastInDim S4x1x4x1 ![0, 2] bcast_S4x4_S4x1x4x1_0_2 eye))
    (broadcastInDim S4x16x4x64 ![0, 1, 2, 3] bcast_S1x16x1x64_S4x16x4x64_0_1_2_3 (broadcastInDim S1x16x1x64 ![1, 3] bcast_S16x64_S1x16x1x64_1_3 a2)))
    shapeCasts_S4x16x4x64_S64x256) bitsLt_bf16_f32

/-- The table rows with the bias added. -/
def biased (a1 : FVec F S8x64 .f32) (a3 : FVec F S64 .f32) : FVec F S8x64 .f32 :=
  addf a1 (broadcastInDim S8x64 ![0, 1] bcast_S1x64_S8x64_0_1 (broadcastInDim S1x64 ![1] bcast_S64_S1x64_1 a3))

/-- The block-diagonal table: four copies of the biased rows along the diagonal. -/
def tableBlock (a1 : FVec F S8x64 .f32) (a3 : FVec F S64 .f32) : FVec F S32x256 .f32 :=
  shapeCast S32x256 (mulf (broadcastInDim S4x8x4x64 ![0, 1, 2, 3] bcast_S4x1x4x1_S4x8x4x64_0_1_2_3 (broadcastInDim S4x1x4x1 ![0, 2] bcast_S4x4_S4x1x4x1_0_2 eye))
    (broadcastInDim S4x8x4x64 ![0, 1, 2, 3] bcast_S1x8x1x64_S4x8x4x64_0_1_2_3 (broadcastInDim S1x8x1x64 ![1, 3] bcast_S8x64_S1x8x1x64_1_3 (biased a1 a3))))
    shapeCasts_S4x8x4x64_S32x256

/-- The channels in groups of four. -/
def groups (a4 : IVec S588 32) : IVec S147x4 32 := shapeCast S147x4 a4 shapeCasts_S588_S147x4

/-- Half of the batch with the positions in groups of four, rounded. -/
def grouped (x : FVec F S512x588x16 .f32) : FVec F S512x147x64 .bf16 := truncf .bf16 (shapeCast S512x147x64 x shapeCasts_S512x588x16_S512x147x64) bitsLt_bf16_f32

/-- The first half of the batch. -/
def half0 (a0 : FVec F S1024x588x16 .f32) : FVec F S512x588x16 .f32 := extractStridedSlice S512x588x16 ![0, 0, 0] a0 slices_S1024x588x16_S512x588x16_0_0_0
/-- The second half of the batch. -/
def half1 (a0 : FVec F S1024x588x16 .f32) : FVec F S512x588x16 .f32 := extractStridedSlice S512x588x16 ![512, 0, 0] a0 slices_S1024x588x16_S512x588x16_512_0_0

/-- A call's result with the positions no longer grouped. -/
def ungrouped (o : FVec F S512x147x256 .bf16) : FVec F S512x588x64 .f32 := shapeCast S512x588x64 (extf .f32 o bitsLt_bf16_f32) shapeCasts_S512x147x256_S512x588x64

/-- The two calls' results one after the other. -/
def joined (o0 o1 : FVec F S512x147x256 .bf16) : FVec F S1024x588x64 .f32 :=
  concatenate S1024x588x64 0 [⟨S512x588x64, ungrouped o0⟩, ⟨S512x588x64, ungrouped o1⟩] concatenates_S512x588x64_S512x588x64_S1024x588x64_d0

/-! ## The stretches at any contents -/

variable (V : Valuation τ sig (Elt F))

/-- The first stretch leaves the identity. -/
theorem ops0_eye : after hostOps0 V (Proc.devRef .tc main_v5) = (eye : FVec F S4x4 .f32) := by
  unfold eye; after_results <;> rfl

/-- The second stretch leaves four copies of the weights along the diagonal, at any contents of the identity's buffer. -/
theorem ops01_v6 (h : V (Proc.devRef .tc main_v5) = (eye : FVec F S4x4 .f32)) :
    (truncf .bf16 (after hostOps0_1 V (Proc.devRef .tc main_v6) : FVec F S64x256 .f32) bitsLt_bf16_f32 : FVec F S64x256 .bf16) = weights (V (Proc.devRef .tc main_arg2)) := by
  unfold weights; rw [← h]; congr 1

/-- The third stretch rounds them. -/
theorem ops02_v7 : after hostOps0_2 V (Proc.devRef .tc main_v7) = (truncf .bf16 (V (Proc.devRef .tc main_v6) : FVec F S64x256 .f32) bitsLt_bf16_f32 : FVec F S64x256 .bf16) := by
  after_results <;> rfl

/-- The third stretch adds the bias to the table rows. -/
theorem ops02_v10 : after hostOps0_2 V (Proc.devRef .tc main_v10) = (biased (V (Proc.devRef .tc main_arg1)) (V (Proc.devRef .tc main_arg3)) : FVec F S8x64 .f32) := by
  unfold biased; after_results <;> rfl

/-- The fourth stretch leaves four copies of the biased rows along the diagonal. -/
theorem ops03_v11 (a1 : FVec F S8x64 .f32) (a3 : FVec F S64 .f32) (h : V (Proc.devRef .tc main_v5) = (eye : FVec F S4x4 .f32)) (h' : V (Proc.devRef .tc main_v10) = (biased a1 a3 : FVec F S8x64 .f32)) :
    after hostOps0_3 V (Proc.devRef .tc main_v11) = (tableBlock a1 a3 : FVec F S32x256 .f32) := by
  unfold tableBlock; rw [← h, ← h']; after_results <;> rfl

/-- The fifth stretch groups the channels. -/
theorem ops04_v12 : after hostOps0_4 V (Proc.devRef .tc main_v12) = (groups (V (Proc.devRef .tc main_arg4)) : IVec S147x4 32) := by
  unfold groups; after_results <;> rfl

/-- The fifth stretch makes the first call's input. -/
theorem ops04_v15 : after hostOps0_4 V (Proc.devRef .tc main_v15) = (grouped (half0 (V (Proc.devRef .tc main_arg0))) : FVec F S512x147x64 .bf16) := by
  unfold grouped half0; after_results <;> rfl

/-- The last stretch joins the two arrays. -/
theorem ops2_out : after hostOps2 V (Proc.devRef .tc main_v25) = concatenate S1024x588x64 0 [⟨S512x588x64, V (Proc.devRef .tc main_v18)⟩, ⟨S512x588x64, ungrouped (V (Proc.devRef .tc main_v22))⟩] concatenates_S512x588x64_S512x588x64_S1024x588x64_d0 := by
  unfold ungrouped; after_results <;> rfl

/-- The stretch between the calls regroups the first call's result. -/
theorem ops1_v18 : after hostOps1 V (Proc.devRef .tc main_v18) = (ungrouped (V (Proc.devRef .tc main_v16)) : FVec F S512x588x64 .f32) := by
  unfold ungrouped; after_results <;> rfl

/-- The stretch between the calls makes the second call's input. -/
theorem ops1_v21 : after hostOps1 V (Proc.devRef .tc main_v21) = (grouped (half1 (V (Proc.devRef .tc main_arg0))) : FVec F S512x147x64 .bf16) := by
  unfold grouped half1; after_results <;> rfl

/-! ## The contents when each call begins -/

variable (m : (ℓ : Loc nD τ sig) → Buf (Elt F) ℓ) (ρ : Dev nD → PrngReg) (c : Dev nD)

/-- An argument's contents at launch. -/
abbrev arg (r : Ref sig .tc) : Buf (Elt F) ((c : Thread nD τ).loc r) := m ((c : Thread nD τ).loc r)

/-- The weights window's array when the first call begins. -/
theorem W5_v7 : W5 m ρ c (Proc.devRef .tc main_v7) = (weights (arg m c main_arg2) : FVec F S64x256 .bf16) := by
  rw [W5_of m ρ c main_v7 (by decide), W4_of m ρ c main_v7 (by decide)]
  refine (ops02_v7 (W2 m ρ c)).trans ((ops01_v6 (W1 m ρ c) (ops0_eye (W0 m ρ c))).trans ?_)
  rw [W1_args m ρ c main_arg2 (by decide)]

/-- The table window's array when the first call begins. -/
theorem W5_v11 : W5 m ρ c (Proc.devRef .tc main_v11) = (tableBlock (arg m c main_arg1) (arg m c main_arg3) : FVec F S32x256 .f32) := by
  rw [W5_of m ρ c main_v11 (by decide)]
  refine ops03_v11 (W3 m ρ c) _ _ ?_ ?_
  · rw [W3_of m ρ c main_v5 (by decide), W2_of m ρ c main_v5 (by decide)]; exact ops0_eye (W0 m ρ c)
  · refine (ops02_v10 (W2 m ρ c)).trans ?_
    rw [W2_args m ρ c main_arg1 (by decide), W2_args m ρ c main_arg3 (by decide)]

/-- The channel window's array when the first call begins. -/
theorem W5_v12 : W5 m ρ c (Proc.devRef .tc main_v12) = (groups (arg m c main_arg4) : IVec S147x4 32) := by
  refine (ops04_v12 (W4 m ρ c)).trans ?_
  rw [W4_args m ρ c main_arg4 (by decide)]

/-- The input window's array when the first call begins. -/
theorem W5_v15 : W5 m ρ c (Proc.devRef .tc main_v15) = (grouped (half0 (arg m c main_arg0)) : FVec F S512x147x64 .bf16) := by
  refine (ops04_v15 (W4 m ρ c)).trans ?_
  rw [W4_args m ρ c main_arg0 (by decide)]

/-- A buffer the first call only reads, and the stretch after it does not write, is at the second call what it was at the first. -/
theorem W7_eq_W5 (r : Ref sig .tc) (h : r ∉ hostOps1_W) (h' : ∀ w : Fin cfg0.W, Pipeline.arrRef spec0 w = r → (cfg0.win w).isOut = false) :
    W7 m ρ c (Proc.devRef .tc r) = W5 m ρ c (Proc.devRef .tc r) := (W7_of m ρ c r h).trans (W6_of m ρ c r h')

/-- The input window's array when the second call begins. -/
theorem W7_v21 : W7 m ρ c (Proc.devRef .tc main_v21) = (grouped (half1 (arg m c main_arg0)) : FVec F S512x147x64 .bf16) := by
  refine (ops1_v21 (W6 m ρ c)).trans ?_
  rw [W6_args m ρ c main_arg0 (by decide)]

/-- The result is the two calls' arrays joined. -/
theorem W9_v25 : W9 m ρ c (Proc.devRef .tc main_v25) = (joined (W6 m ρ c (Proc.devRef .tc main_v16)) (W8 m ρ c (Proc.devRef .tc main_v22)) : FVec F S1024x588x64 .f32) := by
  refine (ops2_out (W8 m ρ c)).trans ?_
  rw [W8_of m ρ c main_v18 (by decide +kernel)]
  rw [show W7 m ρ c (Proc.devRef .tc main_v18) = _ from ops1_v18 (W6 m ρ c)]
  rfl

end Cert.KernelIdeal.Hand

end
-- ==== Proof.Blocks.lean ====
/- What one grid point computes over the extended reals, entry by entry: the scratch table is a one-hot product, a tile is a matrix product plus the table. -/
module

public import proofs.«01_k».proof.Proof.Tile
public import Idealize.ShloMosaic.Lib.Pointwise
public import Idealize.ShloMosaic.Lib.StableHlo.Predicate

@[expose] public section

set_option maxRecDepth 16384

noncomputable section

namespace Cert.KernelIdeal.Hand

open Cert.KernelIdeal.Gen
open Idealize.ShloMosaic

/-- The one-hot entry: one where the channel word is the lane number, else zero. -/
def hot (a : BitVec 32) (c : Fin 8) : EReal := if a = BitVec.ofNat 32 c.val then 1 else 0

/-- The entry as the program writes it: the comparison bit widened and converted. -/
theorem hot_eq (a b : BitVec 32) : ((((IntOp.cmpi .eq a b).setWidth 32).toInt : ℝ) : EReal) = if a = b then 1 else 0 := by
  by_cases h : a = b
  · rw [if_pos h, StableHlo.Predicate.cmpi_eq_iff.2 h]; simp
  · have : IntOp.cmpi .eq a b = 0#1 := by
      unfold IntOp.cmpi; rw [beq_eq_false_iff_ne.2 h]; rfl
    rw [if_neg h, this]; simp

/-- The program's entry is the one-hot entry of lane `c` when the lane number it compares with is `c`. -/
theorem ladder (a : BitVec 32) (c : Fin 8) (n : ℕ) (h : n = c.val) :
    (FloatOps.sitofp (F := Ideal) FTy.f32 (BitVec.setWidth 32 (IntOp.cmpi .eq a (BitVec.ofNat 32 n))) : EReal) = hot a c := by
  subst h; exact hot_eq a _

/-- An entry of the output block: the row's group times the weights, plus the table. -/
theorem outBlk_at (w : Vec Ideal S64x256 .bf16) (y : Vec Ideal S147x256 .f32) (x : Vec Ideal S128x147x64 .bf16) (b : Fin 128) (g : Fin 147) (l : Fin 256) :
    outBlk w y x (ix3 b g l) = (∑ k : Fin 64, x (ix3 b g k) * w (ix2 k l)) + y (ix2 g l) := by
  pointwise [outBlk, tile, k0_pay5, k0_pay4]

/-- An entry of the scratch table: the sum over the four one-hot rows of a group. -/
theorem table_at_ix (x0 : Vec Ideal S147x4 .i32) (x1 : Vec Ideal S32x256 .f32) (g : Fin 147) (l : Fin 256) :
    table x0 x1 (ix2 g l) = ∑ s : Fin 4, ∑ c : Fin 8, hot (x0 (ix2 g s)) c * x1 (ix2 ⟨s.val * 8 + c.val, by omega⟩ l) := by
  pointwise [table, k0_pay3, col]
  rw [Fin.sum_univ_tiles 4 8 rfl]
  refine Finset.sum_congr rfl fun s _ => Finset.sum_congr rfl fun c _ => ?_
  refine congrArg (fun z : EReal => z * x1 (ix2 ⟨s.val * 8 + c.val, by omega⟩ l)) ?_
  have hc := c.isLt
  match s with
  | 0 => exact (dif_pos (show 0 * 8 + c.val < 8 by omega)).trans (ladder (x0 (ix2 g 0)) c _ (by show 0 * 8 + c.val = c.val; omega))
  | 1 => exact (dif_neg (show ¬ 1 * 8 + c.val < 8 by omega)).trans ((dif_pos (show 1 * 8 + c.val - 8 < 8 by omega)).trans
      (ladder (x0 (ix2 g 1)) c _ (by show 1 * 8 + c.val - 8 = c.val; omega)))
  | 2 => exact (dif_neg (show ¬ 2 * 8 + c.val < 8 by omega)).trans ((dif_neg (show ¬ 2 * 8 + c.val - 8 < 8 by omega)).trans
      ((dif_pos (show 2 * 8 + c.val - 8 - 8 < 8 by omega)).trans (ladder (x0 (ix2 g 2)) c _ (by show 2 * 8 + c.val - 8 - 8 = c.val; omega))))
  | 3 => exact (dif_neg (show ¬ 3 * 8 + c.val < 8 by omega)).trans ((dif_neg (show ¬ 3 * 8 + c.val - 8 < 8 by omega)).trans
      ((dif_neg (show ¬ 3 * 8 + c.val - 8 - 8 < 8 by omega)).trans (ladder (x0 (ix2 g 3)) c _ (by show 3 * 8 + c.val - 8 - 8 - 8 = c.val; omega))))

end Cert.KernelIdeal.Hand

end
-- ==== Proof.Diagonal.lean ====
/- The block-diagonal arrays entry by entry, and what a product with one comes to: only the diagonal block contributes. -/
module

public import proofs.«01_k».proof.Proof.HostValues
public import proofs.«01_k».proof.Proof.Blocks

@[expose] public section

set_option maxRecDepth 16384

noncomputable section

namespace Cert.KernelIdeal.Hand

open Cert.KernelIdeal.Gen
open Idealize.ShloMosaic

/-- The identity's entry: one on the diagonal, else zero. -/
theorem eye_at (a b : Fin 4) : (eye : FVec Ideal S4x4 .f32) (ix2 a b) = if a = b then (1 : EReal) else 0 := by
  have e : (eye : FVec Ideal S4x4 .f32) (ix2 a b) = (((IntOp.cmpi .eq (IntOp.addi (BitVec.ofNat 32 a.val) 0#32) (BitVec.ofNat 32 b.val)).toNat : ℝ) : EReal) := rfl
  rw [e]
  by_cases h : a = b
  · subst h
    rw [if_pos rfl, StableHlo.Predicate.cmpi_eq_iff.2 (by simp [IntOp.addi])]; simp
  · have e0 : ∀ a b : Fin 4, a ≠ b → IntOp.cmpi .eq (IntOp.addi (BitVec.ofNat 32 a.val) 0#32) (BitVec.ofNat 32 b.val) = 0#1 := by decide
    rw [if_neg h, e0 a b h]; simp

/-- An entry of the block-diagonal weights. -/
theorem weights_at (a2 : FVec Ideal S16x64 .f32) (s s' : Fin 4) (k : Fin 16) (e : Fin 64) :
    weights a2 (ix2 ⟨s.val * 16 + k.val, by omega⟩ ⟨s'.val * 64 + e.val, by omega⟩) = (if s = s' then (1 : EReal) else 0) * a2 (ix2 k e) := by
  rw [← eye_at]
  pointwise [weights]

/-- An entry of the block-diagonal table. -/
theorem tableBlock_at (a1 : FVec Ideal S8x64 .f32) (a3 : FVec Ideal S64 .f32) (s s' : Fin 4) (k : Fin 8) (e : Fin 64) :
    tableBlock a1 a3 (ix2 ⟨s.val * 8 + k.val, by omega⟩ ⟨s'.val * 64 + e.val, by omega⟩) = (if s = s' then (1 : EReal) else 0) * (a1 (ix2 k e) + a3 (ix1 e)) := by
  rw [← eye_at]
  pointwise [tableBlock, biased]

/-- A sum over blocks, every term of which has the factor one on one block and zero elsewhere, is the sum over that block. -/
theorem sum_diagonal {T : ℕ} (s' : Fin 4) (f g : Fin 4 → Fin T → EReal) :
    (∑ s : Fin 4, ∑ k : Fin T, f s k * ((if s = s' then (1 : EReal) else 0) * g s k)) = ∑ k : Fin T, f s' k * g s' k := by
  rw [Finset.sum_eq_single s']
  · exact Finset.sum_congr rfl fun k _ => by rw [if_pos rfl, one_mul]
  · intro s _ h
    exact Finset.sum_eq_zero fun k _ => by rw [if_neg h, zero_mul, mul_zero]
  · intro h; exact absurd (Finset.mem_univ _) h

/-- A one-hot row times a column picks the entry of the channel. -/
theorem sum_hot (ch : Fin 8) (g : Fin 8 → EReal) : (∑ c : Fin 8, hot (BitVec.ofNat 32 ch.val) c * g c) = g ch := by
  have e : ∀ a b : Fin 8, BitVec.ofNat 32 a.val = BitVec.ofNat 32 b.val → a = b := by decide
  rw [Finset.sum_eq_single ch]
  · unfold hot; rw [if_pos rfl, one_mul]
  · intro c _ h
    unfold hot; rw [if_neg fun h' => h (e _ _ h').symm, zero_mul]
  · intro h; exact absurd (Finset.mem_univ _) h

end Cert.KernelIdeal.Hand

end
-- ==== Proof.CallOut.lean ====
/- The array a call leaves, as one function of the four arrays it reads, and why a point's output block is its block of that array. -/
module

public import proofs.«01_k».proof.Proof.Blocks

@[expose] public section

set_option maxRecDepth 16384

noncomputable section

namespace Cert.KernelIdeal.Hand

open Cert.KernelIdeal.Gen
open Idealize.ShloMosaic

variable {F : FTy → Type} [FloatOps F]

/-- Every row of the result is the tile of the same row of the input. -/
def callOut (cb : Vec F S147x4 .i32) (tb : Vec F S32x256 .f32) (w : Vec F S64x256 .bf16) (x : Vec F S512x147x64 .bf16) : Vec F S512x147x256 .bf16 :=
  fun i => tile w (table cb tb) (fun k => x (ix3 (i 0) (k 1) (k 2))) (ix3 0 (i 1) (i 2))

/-- A block of 128 rows of the result is the output block of the same rows of the input. -/
theorem outBlk_of_rows (cb : Vec F S147x4 .i32) (tb : Vec F S32x256 .f32) (w : Vec F S64x256 .bf16) (x : Vec F S512x147x64 .bf16) (xb : Vec F S128x147x64 .bf16)
    (j : S128x147x256.Idx) (i : S512x147x256.Idx) (hx : ∀ (g : Fin 147) (k : Fin 64), xb (ix3 (j 0) g k) = x (ix3 (i 0) g k))
    (h1 : (i 1).val = (j 1).val) (h2 : (i 2).val = (j 2).val) : outBlk w (table cb tb) xb j = callOut cb tb w x i := by
  unfold outBlk callOut
  congr 1
  · funext k; exact hx (k 1) (k 2)
  · funext a
    match a with
    | 0 => rfl
    | 1 => exact Fin.ext h1.symm
    | 2 => exact Fin.ext h2.symm

/-- A place in a block that is the whole array, at block index zero, is the same place of the array. -/
theorem same_place {n m : ℕ} (e y : (⟨2, ![n, m]⟩ : Shape).Idx) (h0 : (e 0).val = 0 * n + 1 * (y 0).val) (h1 : (e 1).val = 0 * m + 1 * (y 1).val) : e = y := by
  funext a
  match a with
  | ⟨0, _⟩ => exact Fin.ext (by show (e 0).val = (y 0).val; omega)
  | ⟨1, _⟩ => exact Fin.ext (by show (e 1).val = (y 1).val; omega)

/-- A row in the block numbered by its quotient by 128 lies between that block's bounds, on every axis. -/
theorem in_block (i : S512x147x256.Idx) (ix : Fin 3 → ℕ) (h0 : ix 0 = (i 0).val / 128) (h1 : ix 1 = 0) (h2 : ix 2 = 0) (a : Fin 3) :
    ix a * S128x147x256.size a ≤ (i a).val ∧ (i a).val < ix a * S128x147x256.size a + S128x147x256.size a := by
  have l0 : (i 0).val < 512 := (i 0).isLt
  have l1 : (i 1).val < 147 := (i 1).isLt
  have l2 : (i 2).val < 256 := (i 2).isLt
  match a with
  | ⟨0, _⟩ => show ix 0 * 128 ≤ (i 0).val ∧ (i 0).val < ix 0 * 128 + 128; omega
  | ⟨1, _⟩ => show ix 1 * 147 ≤ (i 1).val ∧ (i 1).val < ix 1 * 147 + 147; omega
  | ⟨2, _⟩ => show ix 2 * 256 ≤ (i 2).val ∧ (i 2).val < ix 2 * 256 + 256; omega

/-- An entry of the result over the extended reals: a product with the weights plus the one-hot product with the table block. -/
theorem callOut_at (cb : Vec Ideal S147x4 .i32) (tb : Vec Ideal S32x256 .f32) (w : Vec Ideal S64x256 .bf16) (x : Vec Ideal S512x147x64 .bf16)
    (b : Fin 512) (g : Fin 147) (l : Fin 256) :
    callOut cb tb w x (ix3 b g l) = (∑ k : Fin 64, x (ix3 b g k) * w (ix2 k l)) + ∑ s : Fin 4, ∑ c : Fin 8, hot (cb (ix2 g s)) c * tb (ix2 ⟨s.val * 8 + c.val, by omega⟩ l) := by
  rw [← table_at_ix]
  exact outBlk_at w (table cb tb) (fun j => x (ix3 b (j 1) (j 2))) 0 g l

end Cert.KernelIdeal.Hand

end
-- ==== Proof.Spec.lean ====
/- What both programs compute, over the extended reals: each position's row of the table plus the linear layer of its inputs. The precondition says that every
   position's channel is a row of the table. -/
module

public import proofs.«01_k».proof.Proof.Gen.Pre_in_table
public import Idealize.ShloMosaic.Lib.Pointwise
public import Idealize.ShloMosaic.Lib.ReduceAll
public import Idealize.ShloMosaic.Lib.StableHlo.Predicate

@[expose] public section

noncomputable section

namespace Cert.Hand

open Idealize.ShloMosaic

/-- The channel of a position, as a row number of the eight-row table (the word modulo eight, which is the word itself for a channel in the table). -/
def chan (cb : (⟨1, ![588]⟩ : Shape).Idx → BitVec 32) (p : Fin 588) : Fin 8 := ⟨(cb (ix1 p)).toNat % 8, Nat.mod_lt _ (by decide)⟩

/-- Every position's channel is a row of the table. -/
def InTable (cb : (⟨1, ![588]⟩ : Shape).Idx → BitVec 32) : Prop := ∀ p : Fin 588, cb (ix1 p) = BitVec.ofNat 32 (chan cb p).val

/-- The result: at batch row `b`, position `p`, lane `e`, the table row of the position's channel plus the product of the inputs with the weights plus the bias. -/
def spec (x : (⟨3, ![1024, 588, 16]⟩ : Shape).Idx → EReal) (emb : (⟨2, ![8, 64]⟩ : Shape).Idx → EReal) (w : (⟨2, ![16, 64]⟩ : Shape).Idx → EReal)
    (bias : (⟨1, ![64]⟩ : Shape).Idx → EReal) (cb : (⟨1, ![588]⟩ : Shape).Idx → BitVec 32) (b : Fin 1024) (p : Fin 588) (e : Fin 64) : EReal :=
  emb (ix2 (chan cb p) e) + ((∑ k : Fin 16, x (ix3 b p k) * w (ix2 k e)) + bias (ix1 e))

/-- A word that is at least zero and less than eight, compared as signed, is one of the first eight naturals. -/
theorem word_lt_eight (a : BitVec 32) (h0 : IntOp.cmpi .sge a 0#32 = 1#1) (h8 : IntOp.cmpi .slt a 8#32 = 1#1) : a = BitVec.ofNat 32 (a.toNat % 8) := by
  have h0' : (0 : Int) ≤ a.toInt := by
    have := (StableHlo.Predicate.ofBool_eq_one_iff _).1 h0
    simpa [BitVec.sle] using this
  have h8' : a.toInt < 8 := by
    have := (StableHlo.Predicate.ofBool_eq_one_iff _).1 h8
    simpa [BitVec.slt] using this
  have h : a.toNat < 8 := by
    have e := BitVec.toInt_eq_toNat_cond a
    have := a.isLt
    split at e <;> omega
  rw [Nat.mod_eq_of_lt h]; simp

/-- The stated precondition says that every channel is in the table. -/
theorem inTable_of_pre {F : FTy → Type} [FloatOps F] (a0 : FVec F Pre_in_table.S1024x588x16 .f32) (a1 : FVec F Pre_in_table.S8x64 .f32)
    (a2 : FVec F Pre_in_table.S16x64 .f32) (a3 : FVec F Pre_in_table.S64 .f32) (a4 : IVec Pre_in_table.S588 32)
    (h : @Pre_in_table.fn Cert.Pre_in_table.Gen.facts F _ a0 a1 a2 a3 a4 = fun _ => 1#1) : InTable a4 := fun p => by
  have hz : Subsingleton Pre_in_table.S_.Idx := ⟨fun a b => funext fun i => i.elim0⟩
  have e := Host.reduce_andi_all _ _ _ _ ix0 (congrFun h ix0) (ix1 p)
  obtain ⟨e0, e8⟩ := IntOp.andi_eq_one.1 e
  exact word_lt_eight _ e0 e8

end Cert.Hand

end
-- ==== Proof.Equation.lean ====
/- The kernel's result, entry by entry, is the stated function of the arguments. -/
module

public import proofs.«01_k».proof.Proof.Diagonal
public import proofs.«01_k».proof.Proof.CallOut
public import proofs.«01_k».proof.Proof.Spec

@[expose] public section

set_option maxRecDepth 16384

noncomputable section

namespace Cert.KernelIdeal.Hand

open Cert.KernelIdeal.Gen Cert.Hand
open Idealize.ShloMosaic

/-- Member `s` of group `g` is position `4 g + s`. -/
abbrev pos (g : Fin 147) (s : Fin 4) : Fin 588 := ⟨g.val * 4 + s.val, by omega⟩

/-- The channel of a group's member. -/
theorem groups_at (a4 : IVec S588 32) (g : Fin 147) (s : Fin 4) : groups a4 (ix2 g s) = a4 (ix1 (pos g s)) := by
  pointwise [groups]

/-- The inputs of a group's member. -/
theorem grouped_at (x : FVec Ideal S512x588x16 .f32) (b : Fin 512) (g : Fin 147) (s : Fin 4) (k : Fin 16) :
    grouped x (ix3 b g ⟨s.val * 16 + k.val, by omega⟩) = x (ix3 b (pos g s) k) := by
  pointwise [grouped]
  have h : (s.val * 16 + k.val) / 16 = s.val := by omega
  simp only [h]

/-- An entry of a call's result, its positions no longer grouped. -/
theorem ungrouped_at (o : FVec Ideal S512x147x256 .bf16) (b : Fin 512) (g : Fin 147) (s : Fin 4) (e : Fin 64) :
    ungrouped o (ix3 b (pos g s) e) = o (ix3 b g ⟨s.val * 64 + e.val, by omega⟩) := by
  pointwise [ungrouped]
  have h : (g.val * 4 + s.val) / 4 = g.val := by omega
  have h' : (g.val * 4 + s.val) % 4 = s.val := by omega
  simp only [h, h']

/-- A row of the first half of the batch. -/
theorem half0_at (a0 : FVec Ideal S1024x588x16 .f32) (b : Fin 512) (p : Fin 588) (k : Fin 16) : half0 a0 (ix3 b p k) = a0 (ix3 ⟨b.val, by omega⟩ p k) := by
  pointwise [half0]

/-- A row of the second half of the batch. -/
theorem half1_at (a0 : FVec Ideal S1024x588x16 .f32) (b : Fin 512) (p : Fin 588) (k : Fin 16) : half1 a0 (ix3 b p k) = a0 (ix3 ⟨512 + b.val, by omega⟩ p k) := by
  pointwise [half1]

/-- The joined result, by the half a row lies in. -/
theorem joined_at (o0 o1 : FVec Ideal S512x147x256 .bf16) (b : Fin 1024) (p : Fin 588) (e : Fin 64) :
    joined o0 o1 (ix3 b p e) = if h : b.val < 512 then ungrouped o0 (ix3 ⟨b.val, h⟩ p e) else ungrouped o1 (ix3 ⟨b.val - 512, by omega⟩ p e) := by
  pointwise [joined]

/-- One entry of one call: the product of the position's inputs with the weights, plus the channel's row with the bias. -/
theorem call_at (a1 : FVec Ideal S8x64 .f32) (a2 : FVec Ideal S16x64 .f32) (a3 : FVec Ideal S64 .f32) (a4 : IVec S588 32) (hin : InTable a4)
    (x : FVec Ideal S512x588x16 .f32) (b : Fin 512) (p : Fin 588) (e : Fin 64) :
    ungrouped (callOut (groups a4) (tableBlock a1 a3) (weights a2) (grouped x)) (ix3 b p e)
      = (∑ k : Fin 16, x (ix3 b p k) * a2 (ix2 k e)) + (a1 (ix2 (chan a4 p) e) + a3 (ix1 e)) := by
  obtain ⟨g, s, rfl⟩ : ∃ (g : Fin 147) (s : Fin 4), p = pos g s :=
    ⟨⟨p.val / 4, by omega⟩, ⟨p.val % 4, by omega⟩, Fin.ext (by show p.val = p.val / 4 * 4 + p.val % 4; omega)⟩
  rw [ungrouped_at, callOut_at, Fin.sum_univ_tiles 4 16 rfl]
  simp only [grouped_at, weights_at, groups_at, tableBlock_at]
  rw [sum_diagonal s fun s k => x (ix3 b (pos g s) k), sum_diagonal s fun s c => hot (a4 (ix1 (pos g s))) c, hin (pos g s), sum_hot]

/-- The product plus the row with the bias is the row plus the product with the bias. -/
theorem reorder (s r b : EReal) : s + (r + b) = r + (s + b) := add_left_comm s r b

/-- The kernel's result, from the two halves of the batch, is the stated function of its arguments. -/
theorem result_at (a0 : FVec Ideal S1024x588x16 .f32) (a1 : FVec Ideal S8x64 .f32) (a2 : FVec Ideal S16x64 .f32) (a3 : FVec Ideal S64 .f32) (a4 : IVec S588 32)
    (hin : InTable a4) (b : Fin 1024) (p : Fin 588) (e : Fin 64) :
    joined (callOut (groups a4) (tableBlock a1 a3) (weights a2) (grouped (half0 a0))) (callOut (groups a4) (tableBlock a1 a3) (weights a2) (grouped (half1 a0))) (ix3 b p e)
      = spec a0 a1 a2 a3 a4 b p e := by
  rw [joined_at]
  unfold spec
  rw [← reorder]
  by_cases h : b.val < 512
  · rw [dif_pos h, call_at a1 a2 a3 a4 hin]
    simp only [half0_at]
  · have hb : (⟨512 + (b.val - 512), by omega⟩ : Fin 1024) = b := Fin.ext (by show 512 + (b.val - 512) = b.val; omega)
    rw [dif_neg h, call_at a1 a2 a3 a4 hin]
    simp only [half1_at, hb]

end Cert.KernelIdeal.Hand

end
-- ==== Proof.Array0.lean ====
/- The first pallas_call's result array: its four points write back the four blocks of 128 rows of `callOut` of the arrays it reads. -/
module

public import proofs.«01_k».proof.Proof.Region0
public import proofs.«01_k».proof.Proof.CallOut

@[expose] public section

set_option maxRecDepth 16384

noncomputable section

namespace Cert.KernelIdeal.Hand

open Cert.KernelIdeal.Gen
open Idealize.ShloMosaic Idealize.ShloMosaic.TcCoe
open Idealize.ShloMosaic.Pipeline (Dat)

variable {F : FTy → Type} [FloatOps F]
variable (V : (c : Dev nD) → (b : Ref sig .tc) → Buf (Elt F) ((c : Thread nD τ).loc b)) (c : Dev nD)

/-- The channel window holds its whole array at every point. -/
theorem iblk0_0 (t : Fin cfg0.N) : (iblk0 V c 0 t : Vec F S147x4 .i32) = V c (Pipeline.arrRef spec0 0) :=
  funext fun y => congrArg (V c (Pipeline.arrRef spec0 0)) (same_place _ y rfl rfl)

/-- The table window holds its whole array at every point. -/
theorem iblk0_1 (t : Fin cfg0.N) : (iblk0 V c 1 t : Vec F S32x256 .f32) = V c (Pipeline.arrRef spec0 1) :=
  funext fun y => congrArg (V c (Pipeline.arrRef spec0 1)) (same_place _ y rfl rfl)

/-- The weights window holds its whole array at every point. -/
theorem iblk0_2 (t : Fin cfg0.N) : (iblk0 V c 2 t : Vec F S64x256 .bf16) = V c (Pipeline.arrRef spec0 2) :=
  funext fun y => congrArg (V c (Pipeline.arrRef spec0 2)) (same_place _ y rfl rfl)

/-- The input and output windows are on block `t` of the rows at point `t`. -/
theorem rows0 : ∀ t : Fin cfg0.N, (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The array the call leaves in its result. -/
abbrev result0 : Vec F S512x147x256 .bf16 :=
  callOut (V c (Pipeline.arrRef spec0 0)) (V c (Pipeline.arrRef spec0 1)) (V c (Pipeline.arrRef spec0 2)) (V c (Pipeline.arrRef spec0 3))

/-- What point `t` writes back is block `t` of the array. -/
theorem flushed0 (t : Fin cfg0.N) : (dat0 V c).flushed 4 t = ((cfg0.win 4).blk t).view.read (Elt F) (result0 V c) := by
  show (cfg0.win 4).cut (grid0.coords t) ((dat0 V c).after 4 t) = _
  rw [after0_4]
  obtain ⟨⟨e0, e1, e2⟩, f0, f1, f2⟩ := rows0 t
  have ht : tab0 V c = table (V c (Pipeline.arrRef spec0 0)) (V c (Pipeline.arrRef spec0 1)) := by unfold tab0; rw [iblk0_0, iblk0_1]
  rw [ht, show (iblk0 V c 2 t : Vec F S64x256 .bf16) = _ from iblk0_2 V c t]
  funext y
  refine outBlk_of_rows _ _ _ _ _ y (((cfg0.win 4).blk t).view.emb y) (fun g k => ?_) ?_ ?_
  · refine congrArg (V c (Pipeline.arrRef spec0 3)) (funext fun a => Fin.ext ?_)
    match a with
    | ⟨0, _⟩ => show win0_3.index t (0 : Fin 3) * 128 + 1 * (y 0).val = win0_4.index t (0 : Fin 3) * 128 + 1 * (y 0).val; omega
    | ⟨1, _⟩ => show win0_3.index t (1 : Fin 3) * 147 + 1 * g.val = g.val; omega
    | ⟨2, _⟩ => show win0_3.index t (2 : Fin 3) * 64 + 1 * k.val = k.val; omega
  · show win0_4.index t (1 : Fin 3) * 147 + 1 * (y 1).val = (y 1).val; omega
  · show win0_4.index t (2 : Fin 3) * 256 + 1 * (y 2).val = (y 2).val; omega

/-- Every row lies in some point's block. -/
theorem covered0 (i : S512x147x256.Idx) : ∃ t : Fin cfg0.N, (cfg0.win 4).flush t = true ∧ i ∈ ((cfg0.win 4).blk t).view.set := by
  have h0 : (i 0).val < 512 := (i 0).isLt
  obtain ⟨t, ht⟩ : ∃ t : Fin cfg0.N, t.val = (i 0).val / 128 := ⟨⟨(i 0).val / 128, lt_of_lt_of_eq (by omega) N_0.symm⟩, rfl⟩
  obtain ⟨-, f0, f1, f2⟩ := rows0 t
  refine ⟨t, flush0_4 t, ?_⟩
  show i ∈ ((View.whole (Pipeline.arrRef spec0 4)).slice (win0_4.rect t)).set
  rw [View.set_slice_whole, Rect.mem_set_unit]
  exact in_block i _ (f0.trans ht) f1 f2

/-- The array after the last point. -/
theorem final0 : (dat0 V c).arrAt 4 cfg0.N = result0 V c :=
  (dat0 V c).arrAt_eq_of_cover 4 _ (fun t _ => flushed0 V c t) covered0

end Cert.KernelIdeal.Hand

end
-- ==== Proof.Array1.lean ====
/- The second pallas_call's result array: its four points write back the four blocks of 128 rows of `callOut` of the arrays it reads. -/
module

public import proofs.«01_k».proof.Proof.Region1
public import proofs.«01_k».proof.Proof.CallOut

@[expose] public section

set_option maxRecDepth 16384

noncomputable section

namespace Cert.KernelIdeal.Hand

open Cert.KernelIdeal.Gen
open Idealize.ShloMosaic Idealize.ShloMosaic.TcCoe
open Idealize.ShloMosaic.Pipeline (Dat)

variable {F : FTy → Type} [FloatOps F]
variable (V : (c : Dev nD) → (b : Ref sig .tc) → Buf (Elt F) ((c : Thread nD τ).loc b)) (c : Dev nD)

/-- The channel window holds its whole array at every point. -/
theorem iblk1_0 (t : Fin cfg1.N) : (iblk1 V c 0 t : Vec F S147x4 .i32) = V c (Pipeline.arrRef spec1 0) :=
  funext fun y => congrArg (V c (Pipeline.arrRef spec1 0)) (same_place _ y rfl rfl)

/-- The table window holds its whole array at every point. -/
theorem iblk1_1 (t : Fin cfg1.N) : (iblk1 V c 1 t : Vec F S32x256 .f32) = V c (Pipeline.arrRef spec1 1) :=
  funext fun y => congrArg (V c (Pipeline.arrRef spec1 1)) (same_place _ y rfl rfl)

/-- The weights window holds its whole array at every point. -/
theorem iblk1_2 (t : Fin cfg1.N) : (iblk1 V c 2 t : Vec F S64x256 .bf16) = V c (Pipeline.arrRef spec1 2) :=
  funext fun y => congrArg (V c (Pipeline.arrRef spec1 2)) (same_place _ y rfl rfl)

/-- The input and output windows are on block `t` of the rows at point `t`. -/
theorem rows1 : ∀ t : Fin cfg1.N, (win1_3.index t (0 : Fin 3) = t.val ∧ win1_3.index t (1 : Fin 3) = 0 ∧ win1_3.index t (2 : Fin 3) = 0)
    ∧ (win1_4.index t (0 : Fin 3) = t.val ∧ win1_4.index t (1 : Fin 3) = 0 ∧ win1_4.index t (2 : Fin 3) = 0) :=
  (by decide +kernel : ∀ t : Fin grid1.N, _)

/-- The array the call leaves in its result. -/
abbrev result1 : Vec F S512x147x256 .bf16 :=
  callOut (V c (Pipeline.arrRef spec1 0)) (V c (Pipeline.arrRef spec1 1)) (V c (Pipeline.arrRef spec1 2)) (V c (Pipeline.arrRef spec1 3))

/-- What point `t` writes back is block `t` of the array. -/
theorem flushed1 (t : Fin cfg1.N) : (dat1 V c).flushed 4 t = ((cfg1.win 4).blk t).view.read (Elt F) (result1 V c) := by
  show (cfg1.win 4).cut (grid1.coords t) ((dat1 V c).after 4 t) = _
  rw [after1_4]
  obtain ⟨⟨e0, e1, e2⟩, f0, f1, f2⟩ := rows1 t
  have ht : tab1 V c = table (V c (Pipeline.arrRef spec1 0)) (V c (Pipeline.arrRef spec1 1)) := by unfold tab1; rw [iblk1_0, iblk1_1]
  rw [ht, show (iblk1 V c 2 t : Vec F S64x256 .bf16) = _ from iblk1_2 V c t]
  funext y
  refine outBlk_of_rows _ _ _ _ _ y (((cfg1.win 4).blk t).view.emb y) (fun g k => ?_) ?_ ?_
  · refine congrArg (V c (Pipeline.arrRef spec1 3)) (funext fun a => Fin.ext ?_)
    match a with
    | ⟨0, _⟩ => show win1_3.index t (0 : Fin 3) * 128 + 1 * (y 0).val = win1_4.index t (0 : Fin 3) * 128 + 1 * (y 0).val; omega
    | ⟨1, _⟩ => show win1_3.index t (1 : Fin 3) * 147 + 1 * g.val = g.val; omega
    | ⟨2, _⟩ => show win1_3.index t (2 : Fin 3) * 64 + 1 * k.val = k.val; omega
  · show win1_4.index t (1 : Fin 3) * 147 + 1 * (y 1).val = (y 1).val; omega
  · show win1_4.index t (2 : Fin 3) * 256 + 1 * (y 2).val = (y 2).val; omega

/-- Every row lies in some point's block. -/
theorem covered1 (i : S512x147x256.Idx) : ∃ t : Fin cfg1.N, (cfg1.win 4).flush t = true ∧ i ∈ ((cfg1.win 4).blk t).view.set := by
  have h0 : (i 0).val < 512 := (i 0).isLt
  obtain ⟨t, ht⟩ : ∃ t : Fin cfg1.N, t.val = (i 0).val / 128 := ⟨⟨(i 0).val / 128, lt_of_lt_of_eq (by omega) N_1.symm⟩, rfl⟩
  obtain ⟨-, f0, f1, f2⟩ := rows1 t
  refine ⟨t, flush1_4 t, ?_⟩
  show i ∈ ((View.whole (Pipeline.arrRef spec1 4)).slice (win1_4.rect t)).set
  rw [View.set_slice_whole, Rect.mem_set_unit]
  exact in_block i _ (f0.trans ht) f1 f2

/-- The array after the last point. -/
theorem final1 : (dat1 V c).arrAt 4 cfg1.N = result1 V c :=
  (dat1 V c).arrAt_eq_of_cover 4 _ (fun t _ => flushed1 V c t) covered1

end Cert.KernelIdeal.Hand

end
-- ==== Proof.RefValue.lean ====
/- The reference's run, and its result entry by entry: with every channel in the table, the lookup reads the channel's row. -/
module

public import proofs.«01_k».proof.Proof.Spec
public import proofs.«01_k».proof.Proof.Gen.ReferenceIdeal.Run
public import Idealize.ShloMosaic.Lib.Quiescent
public import Idealize.ShloMosaic.Lib.Routing.Ops

@[expose] public section

set_option maxRecDepth 16384

noncomputable section

namespace Cert.ReferenceIdeal.Hand

open Cert.ReferenceIdeal Cert.ReferenceIdeal.Gen Cert.Hand
open Idealize.ShloMosaic Idealize.ShloMosaic.TcCoe Idealize.SL.Sem

/-- The lookup's start indices: a negative channel counted from the end, as a column. -/
def rows (a4 : IVec S588 32) : IVec S588x1 32 :=
  broadcastInDim S588x1 ![0] bcast_S588_S588x1_0 (select (cmpi .slt a4 (broadcastInDim S588 ![] bcast_S_S588 (constantI S_ 32 0#32)))
    (addi a4 (broadcastInDim S588 ![] bcast_S_S588 (constantI S_ 32 8#32))) a4)

/-- Which start indices are rows of the table. -/
def valid (a4 : IVec S588 32) : IVec S588 1 :=
  Host.reduce IntOp.andi (andi (cmpi .sge (rows a4) (broadcastInDim S588x1 ![] bcast_S_S588x1 (constantI S_ 32 0#32)))
    (cmpi .sle (rows a4) (broadcastInDim S588x1 ![0, 1] bcast_S1x1_S588x1_0_1 (broadcastInDim S1x1 ![1] bcast_S1_S1x1_1 (constantI S1 32 7#32)))))
    (constantI S_ 1 1#1) reducesTo_S588x1_S588_d1 h_S_

/-- The looked-up rows, one per position; an index outside the table gives the fill value. -/
def picked (a1 : FVec Ideal S8x64 .f32) (a4 : IVec S588 32) : FVec Ideal S588x64 .f32 :=
  select (broadcastInDim S588x64 ![0] bcast_S588_S588x64_0 (valid a4)) (Host.gather gather_S8x64_S588x1_S588x64_1_0_n_n_0_1_164 a1 (rows a4))
    (broadcastInDim S588x64 ![] bcast_S_S588x64 (constant S_ .f32 0x7FC00000#32))

/-- The reference's result as an array. -/
def out (a0 : FVec Ideal S1024x588x16 .f32) (a1 : FVec Ideal S8x64 .f32) (a2 : FVec Ideal S16x64 .f32) (a3 : FVec Ideal S64 .f32) (a4 : IVec S588 32) :
    FVec Ideal S1024x588x64 .f32 :=
  addf (broadcastInDim S1024x588x64 ![0, 1, 2] bcast_S1x588x64_S1024x588x64_0_1_2 (broadcastInDim S1x588x64 ![1, 2] bcast_S588x64_S1x588x64_1_2 (picked a1 a4)))
    (addf (Host.dotGeneral dot_S1024x588x16_S16x64_S1024x588x64_2_0_01_1_n_n none a0 a2)
      (broadcastInDim S1024x588x64 ![0, 1, 2] bcast_S1x1x64_S1024x588x64_0_1_2 (broadcastInDim S1x1x64 ![2] bcast_S64_S1x1x64_2 a3)))

/-- A start index in the table is the channel's own word. -/
theorem rows_at (a4 : IVec S588 32) (h : InTable a4) (p : Fin 588) : rows a4 (ix2 p 0) = BitVec.ofNat 32 (chan a4 p).val := by
  have e : rows a4 (ix2 p 0) = Scalar.select (IntOp.cmpi .slt (a4 (ix1 p)) 0#32) (IntOp.addi (a4 (ix1 p)) 8#32) (a4 (ix1 p)) := by
    pointwise [rows]
  rw [e, h p]
  generalize chan a4 p = k
  revert k; decide

/-- With every channel in the table, every start index is valid. -/
theorem valid_at (a4 : IVec S588 32) (h : InTable a4) (j : S588.Idx) : valid a4 j = 1#1 := by
  refine Host.reduce_andi_one _ _ _ _ _ rfl fun i => ?_
  obtain ⟨p, rfl⟩ : ∃ p : Fin 588, i = ix2 p 0 := ⟨i 0, by rw [eq_ix2 i]; congr 1; exact Subsingleton.elim (α := Fin 1) _ _⟩
  have e : ∀ k : Fin 8, IntOp.andi (IntOp.cmpi .sge (BitVec.ofNat 32 k.val) 0#32) (IntOp.cmpi .sle (BitVec.ofNat 32 k.val) 7#32) = 1#1 := by decide
  have e' := e (chan a4 p)
  rw [← rows_at a4 h p] at e'
  exact e'

/-- The lookup reads the channel's row. -/
theorem picked_at (a1 : FVec Ideal S8x64 .f32) (a4 : IVec S588 32) (h : InTable a4) (p : Fin 588) (e : Fin 64) :
    picked a1 a4 (ix2 p e) = a1 (ix2 (chan a4 p) e) := by
  have hg : Host.gather gather_S8x64_S588x1_S588x64_1_0_n_n_0_1_164 a1 (rows a4) (ix2 p e) = a1 (ix2 (chan a4 p) e) :=
    Routing.gather_row gather_S8x64_S588x1_S588x64_1_0_n_n_0_1_164 rfl rfl rfl rfl rfl a1 (rows a4) p e (chan a4 p) (rows_at a4 h p) (by decide)
  have hv : broadcastInDim S588x64 ![0] bcast_S588_S588x64_0 (valid a4) (ix2 p e) = 1#1 := valid_at a4 h _
  unfold picked
  show Scalar.select (broadcastInDim S588x64 ![0] bcast_S588_S588x64_0 (valid a4) (ix2 p e)) _ _ = _
  rw [hv, hg]; rfl

/-- The reference's result is the stated function of its arguments. -/
theorem out_at (a0 : FVec Ideal S1024x588x16 .f32) (a1 : FVec Ideal S8x64 .f32) (a2 : FVec Ideal S16x64 .f32) (a3 : FVec Ideal S64 .f32) (a4 : IVec S588 32)
    (h : InTable a4) (b : Fin 1024) (p : Fin 588) (e : Fin 64) : out a0 a1 a2 a3 a4 (ix3 b p e) = spec a0 a1 a2 a3 a4 b p e := by
  unfold spec
  rw [← picked_at a1 a4 h p e]
  pointwise [out]

/-- Every run of the reference ends with the result at `out` of the arguments, and leaves the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

/-- Every run of the reference leaves the arguments and ends with every semaphore counter at zero: it declares no semaphore. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2, sem_eq_zero_of_no_sems (by decide) r.2⟩) (run m ρ)

end Cert.ReferenceIdeal.Hand

end
-- ==== Proof.Result.lean ====
/- Every run of the kernel ends with the reference's term of the same arguments. -/
module

public import proofs.«01_k».proof.Proof.Equation
public import proofs.«01_k».proof.Proof.Array0
public import proofs.«01_k».proof.Proof.Array1
public import proofs.«01_k».proof.Proof.HostValues
public import proofs.«01_k».proof.Proof.RefValue
public import proofs.«01_k».proof.Proof.Run

@[expose] public section

set_option maxRecDepth 16384

noncomputable section

namespace Cert.KernelIdeal.Hand

open Cert.KernelIdeal.Gen Cert.Hand
open Idealize.ShloMosaic Idealize.SL.Sem

variable (m : (ℓ : Loc nD τ sig) → Buf (Elt Ideal) ℓ) (ρ : Dev nD → PrngReg) (c : Dev nD)

/-- What a call leaves is fixed by its four input arrays. -/
theorem callOut_congr {cb cb' : IVec S147x4 32} {tb tb' : FVec Ideal S32x256 .f32} {w w' : FVec Ideal S64x256 .bf16} {x x' : FVec Ideal S512x147x64 .bf16}
    (h0 : cb = cb') (h1 : tb = tb') (h2 : w = w') (h3 : x = x') : (callOut (F := Ideal) cb tb w x) = callOut (F := Ideal) cb' tb' w' x' := by
  subst h0 h1 h2 h3; rfl

/-- What the first call leaves in its output array. -/
theorem W6_v16 : W6 m ρ c (Proc.devRef .tc main_v16)
    = callOut (F := Ideal) (groups (arg m c main_arg4)) (tableBlock (F := Ideal) (arg m c main_arg1) (arg m c main_arg3)) (weights (F := Ideal) (arg m c main_arg2)) (grouped (F := Ideal) (half0 (arg m c main_arg0))) :=
  (W6_arr m ρ c 4).trans ((final0 (V5 m ρ) c).trans (callOut_congr (W5_v12 m ρ c) (W5_v11 m ρ c) (W5_v7 m ρ c) (W5_v15 m ρ c)))

/-- What the second call leaves in its output array. -/
theorem W8_v22 : W8 m ρ c (Proc.devRef .tc main_v22)
    = callOut (F := Ideal) (groups (arg m c main_arg4)) (tableBlock (F := Ideal) (arg m c main_arg1) (arg m c main_arg3)) (weights (F := Ideal) (arg m c main_arg2)) (grouped (F := Ideal) (half1 (arg m c main_arg0))) :=
  (W8_arr m ρ c 4).trans ((final1 (V7 m ρ) c).trans (callOut_congr
    ((W7_eq_W5 m ρ c main_v12 (by decide +kernel) (by decide +kernel)).trans (W5_v12 m ρ c))
    ((W7_eq_W5 m ρ c main_v11 (by decide +kernel) (by decide +kernel)).trans (W5_v11 m ρ c))
    ((W7_eq_W5 m ρ c main_v7 (by decide +kernel) (by decide +kernel)).trans (W5_v7 m ρ c)) (W7_v21 m ρ c)))

/-- With every channel in the table, the kernel's result is the reference's term of the kernel's arguments. -/
theorem W9_out (hin : InTable (arg m c main_arg4)) : W9 m ρ c (Proc.devRef .tc main_v25)
    = Cert.ReferenceIdeal.Hand.out (arg m c main_arg0) (arg m c main_arg1) (arg m c main_arg2) (arg m c main_arg3) (arg m c main_arg4) := by
  rw [W9_v25, W6_v16, W8_v22]
  funext i
  rw [eq_ix3 i]
  exact (result_at _ _ _ _ _ hin _ _ _).trans (Cert.ReferenceIdeal.Hand.out_at _ _ _ _ _ hin _ _ _).symm

/-- Every run of the kernel ends with the result at the reference's term of the arguments, and leaves the arguments. -/
theorem run_out (hin : ∀ c, InTable (arg m c main_arg4)) : θ_run defs (onTc (τ := τ) (main (F := Ideal))) ⟨m, fun _ => 0, ρ⟩ (fun r => ∀ c : Dev nD,
      r.2.mem ((c.tc : Thread nD τ).loc main_v25) = Cert.ReferenceIdeal.Hand.out (arg m c main_arg0) (arg m c main_arg1) (arg m c main_arg2) (arg m c main_arg3) (arg m c main_arg4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    have ha : ∀ a ∈ argRefs, r.2.mem ((c.tc : Thread nD τ).loc a) = m ((c.tc : Thread nD τ).loc a) := fun a ha => (h.1 c _ (mem_uc a (argRefs_unscoped a ha))).trans (W9_args m ρ c a ha)
    ⟨(h.1 c _ (mem_uc main_v25 (by decide))).trans (W9_out m ρ c (hin c)),
      ha main_arg0 (by decide), ha main_arg1 (by decide), ha main_arg2 (by decide), ha main_arg3 (by decide), ha main_arg4 (by decide)⟩) (run_all m ρ)

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_table
public import proofs.«01_k».proof.Proof.Transfer
public import proofs.«01_k».proof.Proof.Result
public import Idealize.ShloMosaic.Adequacy
public import Idealize.ShloMosaic.Init

@[expose] public section

noncomputable section

namespace Cert.Proof

open Idealize.ShloMosaic Idealize.SL.Sem Cert.Kernel

/-- With every channel in the table, the kernel and the reference end with the same result, each leaving its arguments. -/
theorem same_result : Cert.algebraic_KernelIdeal_ReferenceIdeal_pre_in_table (hKernelIdeal := Cert.KernelIdeal.Gen.facts)
    (hReferenceIdeal := Cert.ReferenceIdeal.Gen.facts) (hPre_in_table := Cert.Pre_in_table.Gen.facts) := by
  intro m g m' g' hpre hagree
  refine ⟨_, Cert.KernelIdeal.Hand.run_out m g fun c => Cert.Hand.inTable_of_pre _ _ _ _ _ (hpre c), ?_⟩
  refine (θ_run Cert.ReferenceIdeal.defs _ _).mono (fun r h c => ⟨(h c).1.trans ?_, (h c).2⟩) (Cert.ReferenceIdeal.Hand.run m' g')
  obtain ⟨h0, h1, h2, h3, h4⟩ := hagree c
  rw [h0, h1, h2, h3, h4]

/-- Every claim holds. -/
theorem claim : Cert.Claim := ⟨Cert.Kernel.Gen.facts, Cert.KernelIdeal.Gen.facts, Cert.ReferenceIdeal.Gen.facts, Cert.Pre_in_table.Gen.facts,
  fun m g _ => Cert.Kernel.Hand.frame m g, fun m g _ => Cert.KernelIdeal.Hand.frame m g, fun m g _ => Cert.KernelIdeal.Hand.frame m g,
  fun m g _ => Cert.ReferenceIdeal.Hand.frame m g, fun m g _ => Cert.ReferenceIdeal.Hand.frame m g, trivial, same_result⟩

end Cert.Proof

end
